-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1000000x3 : Shape := ⟨2, ![1000000, 3]⟩
abbrev S1600x1875 : Shape := ⟨2, ![1600, 1875]⟩
abbrev S1x1 : Shape := ⟨2, ![1, 1]⟩
abbrev S160x1875 : Shape := ⟨2, ![160, 1875]⟩
abbrev S8x1875 : Shape := ⟨2, ![8, 1875]⟩
abbrev S160x1874 : Shape := ⟨2, ![160, 1874]⟩
abbrev S160x1 : Shape := ⟨2, ![160, 1]⟩
abbrev S160x1873 : Shape := ⟨2, ![160, 1873]⟩
abbrev S160x2 : Shape := ⟨2, ![160, 2]⟩
abbrev S1x1875 : Shape := ⟨2, ![1, 1875]⟩
abbrev S1875 : Shape := ⟨1, ![1875]⟩
abbrev S8 : Shape := ⟨1, ![8]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 1
  | _ => 0

abbrev bufTy : (tb : Table) → Fin (tcTables nBuf tb) → BufTy
  | .hbm, ⟨0, _⟩ => ⟨S1000000x3, .f32⟩
  | .hbm, ⟨1, _⟩ => ⟨S1000000x3, .f32⟩
  | .hbm, ⟨2, _⟩ => ⟨S1600x1875, .f32⟩
  | .hbm, ⟨3, _⟩ => ⟨S1600x1875, .f32⟩
  | .hbm, ⟨4, _⟩ => ⟨S1x1, .f32⟩
  | .hbm, ⟨5, _⟩ => ⟨S_, .f32⟩
  | .local _ .vmem, ⟨0, _⟩ => ⟨S160x1875, .f32⟩
  | .local _ .vmem, ⟨1, _⟩ => ⟨S160x1875, .f32⟩
  | .local _ .vmem, ⟨2, _⟩ => ⟨S160x1875, .f32⟩
  | .local _ .vmem, ⟨3, _⟩ => ⟨S160x1875, .f32⟩
  | .local _ .vmem, ⟨4, _⟩ => ⟨S8x1875, .f32⟩
  | .local _ .vmem, ⟨5, _⟩ => ⟨S8x1875, .f32⟩
  | .local _ .smem, ⟨0, _⟩ => ⟨S1x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v261 : BitVec 1 := Scalar.cmpi .eq arg0 c9_i32
  let v262 : BitVec 32 := Scalar.extui v261
  let c0_i32_126 : BitVec 32 := 0#32
  let v263 : BitVec 1 := Scalar.cmpi .ne v262 c0_i32_126
  v263

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S160x1875 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S160x1875 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1000000x3 : Shape := ⟨2, ![1000000, 3]⟩
abbrev S64 : Shape := ⟨1, ![64]⟩
abbrev S1000000x1 : Shape := ⟨2, ![1000000, 1]⟩
abbrev S1000000 : Shape := ⟨1, ![1000000]⟩
abbrev S1x64 : Shape := ⟨2, ![1, 64]⟩
abbrev S1000000x64 : Shape := ⟨2, ![1000000, 64]⟩
abbrev S_ : Shape := ⟨0, ![]⟩
abbrev S64x64x2 : Shape := ⟨3, ![64, 64, 2]⟩

abbrev nBuf : Space → Nat
  | .hbm => 112
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1000000x3, .f32⟩
  | .hbm, ⟨2, _⟩ => ⟨S64, .f32⟩
  | .hbm, ⟨3, _⟩ => ⟨S1000000x1, .f32⟩
  | .hbm, ⟨4, _⟩ => ⟨S1000000, .f32⟩
  | .hbm, ⟨5, _⟩ => ⟨S1000000x1, .f32⟩
  | .hbm, ⟨6, _⟩ => ⟨S1x64, .f32⟩
  | .hbm, ⟨7, _⟩ => ⟨S1000000x64, .f32⟩
  | .hbm, ⟨8, _⟩ => ⟨S1000000x64, .f32⟩
  | .hbm, ⟨9, _⟩ => ⟨S1000000x64, .f32⟩
  | .hbm, ⟨10, _⟩ => ⟨S1000000x64, .f32⟩
  | .hbm, ⟨11, _⟩ => ⟨S1000000x64, .i32⟩
  | .hbm, ⟨12, _⟩ => ⟨S_, .f32⟩
  | .hbm, ⟨13, _⟩ => ⟨S_, .i32⟩
  | .hbm, ⟨14, _⟩ => ⟨S1000000, .f32⟩
  | .hbm, ⟨15, _⟩ => ⟨S1000000, .i32⟩
  | .hbm, ⟨16, _⟩ => ⟨S1000000x1, .f32⟩
  | .hbm, ⟨17, _⟩ => ⟨S1000000, .f32⟩
  | .hbm, ⟨18, _⟩ => ⟨S1000000x1, .f32⟩
  | .hbm, ⟨19, _⟩ => ⟨S1x64, .f32⟩
  | .hbm, ⟨20, _⟩ => ⟨S1000000x64, .f32⟩
  | .hbm, ⟨21, _⟩ => ⟨S1000000x64, .f32⟩
  | .hbm, ⟨22, _⟩ => ⟨S1000000x64, .f32⟩
  | .hbm, ⟨23, _⟩ => ⟨S1000000x64, .f32⟩
  | .hbm, ⟨24, _⟩ => ⟨S1000000x64, .i32⟩
  | .hbm, ⟨25, _⟩ => ⟨S_, .f32⟩
  | .hbm, ⟨26, _⟩ => ⟨S_, .i32⟩
  | .hbm, ⟨27, _⟩ => ⟨S1000000, .f32⟩
  | .hbm, ⟨28, _⟩ => ⟨S1000000, .i32⟩
  | .hbm, ⟨29, _⟩ => ⟨S1000000x1, .f32⟩
  | .hbm, ⟨30, _⟩ => ⟨S1000000, .f32⟩
  | .hbm, ⟨31, _⟩ => ⟨S1000000, .f32⟩
  | .hbm, ⟨32, _⟩ => ⟨S_, .f32⟩
  | .hbm, ⟨33, _⟩ => ⟨S1000000, .f32⟩
  | .hbm, ⟨34, _⟩ => ⟨S1000000, .i1⟩
  | .hbm, ⟨35, _⟩ => ⟨S1000000, .i32⟩
  | .hbm, ⟨36, _⟩ => ⟨S_, .f32⟩
  | .hbm, ⟨37, _⟩ => ⟨S64x64x2, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x1, .i32⟩
  | .hbm, ⟨61, _⟩ => ⟨S1000000x1, .i32⟩
  | .hbm, ⟨62, _⟩ => ⟨S1000000x3, .i32⟩
  | .hbm, ⟨63, _⟩ => ⟨S_, .f32⟩
  | .hbm, ⟨64, _⟩ => ⟨S1000000, .f32⟩
  | .hbm, ⟨65, _⟩ => ⟨S64x64x2, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x1, .i32⟩
  | .hbm, ⟨89, _⟩ => ⟨S1000000x1, .i32⟩
  | .hbm, ⟨90, _⟩ => ⟨S1000000x3, .i32⟩
  | .hbm, ⟨91, _⟩ => ⟨S1000000, .f32⟩
  | .hbm, ⟨92, _⟩ => ⟨S1000000x3, .f32⟩
  | .hbm, ⟨93, _⟩ => ⟨S1000000x3, .f32⟩
  | .hbm, ⟨94, _⟩ => ⟨S1000000x3, .f32⟩
  | .hbm, ⟨95, _⟩ => ⟨S1000000x3, .f32⟩
  | .hbm, ⟨96, _⟩ => ⟨S_, .f32⟩
  | .hbm, ⟨97, _⟩ => ⟨S1000000, .f32⟩
  | .hbm, ⟨98, _⟩ => ⟨S1000000, .f32⟩
  | .hbm, ⟨99, _⟩ => ⟨S1000000x3, .f32⟩
  | .hbm, ⟨100, _⟩ => ⟨S1000000x3, .f32⟩
  | .hbm, ⟨101, _⟩ => ⟨S1000000x3, .f32⟩
  | .hbm, ⟨102, _⟩ => ⟨S1000000x3, .f32⟩
  | .hbm, ⟨103, _⟩ => ⟨S_, .f32⟩
  | .hbm, ⟨104, _⟩ => ⟨S1000000, .f32⟩
  | .hbm, ⟨105, _⟩ => ⟨S1000000, .f32⟩
  | .hbm, ⟨106, _⟩ => ⟨S1000000, .f32⟩
  | .hbm, ⟨107, _⟩ => ⟨S1000000, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_cst : Ref sig .tc := ⟨.hbm, 12, rfl⟩
abbrev main_call0_c : Ref sig .tc := ⟨.hbm, 13, rfl⟩
abbrev main_call0_v1_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call1_v0 : Ref sig .tc := ⟨.hbm, 24, rfl⟩
abbrev main_call1_cst : Ref sig .tc := ⟨.hbm, 25, rfl⟩
abbrev main_call1_c : Ref sig .tc := ⟨.hbm, 26, rfl⟩
abbrev main_call1_v1_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_c : Ref sig .tc := ⟨.hbm, 38, rfl⟩
abbrev main_v25 : Ref sig .tc := ⟨.hbm, 39, rfl⟩
abbrev main_v26 : Ref sig .tc := ⟨.hbm, 40, rfl⟩
abbrev main_c_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_3 : Ref sig .tc := ⟨.hbm, 45, rfl⟩
abbrev main_v30 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_c_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call3_v0 : Ref sig .tc := ⟨.hbm, 102, rfl⟩
abbrev main_call3_cst : Ref sig .tc := ⟨.hbm, 103, rfl⟩
abbrev main_call3_v1 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_14 : Ref sig .tc := ⟨.hbm, 108, rfl⟩
abbrev main_v76 : Ref sig .tc := ⟨.hbm, 109, rfl⟩
abbrev main_cst_15 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== Proof.Farthest.lean ====
module

public import Idealize.ShloMosaic.PureOps.Ideal
public import Idealize.ShloMosaic.PureOps.Ideal.Laws
public import Mathlib.Data.List.FinRange

/-!
The farthest of sixty-four points of the line from a given point is the first or the last of them: the arg-max of the
distances `|a - b_k|`, the first index winning a tie, is bin 0 unless bin 63 is strictly farther.
-/

@[expose] public section

noncomputable section

namespace Cert.Farthest

open Idealize.ShloMosaic

/-- The distance of two extended reals, as the programs compute it. -/
def dist (a b : EReal) : EReal := max (a - b) (-(a - b))

/-- A distance is not negative. -/
theorem dist_nonneg (a b : EReal) : 0 ≤ dist a b := by
  unfold dist
  rcases le_total 0 (a - b) with h | h
  · exact le_max_of_le_left h
  · exact le_max_of_le_right (by rw [EReal.le_neg]; simpa using h)

/-- Between real numbers it is the absolute value of the difference. -/
theorem dist_coe (a b : ℝ) : dist (a : EReal) (b : EReal) = ((|a - b| : ℝ) : EReal) := by
  unfold dist
  rw [abs_eq_max_neg, EReal.coe_strictMono.monotone.map_max]
  rfl

/-- Every real number is infinitely far from `⊤`. -/
theorem dist_top (b : ℝ) : dist ⊤ (b : EReal) = ⊤ := by simp [dist]

/-- Every real number is infinitely far from `⊥`. -/
theorem dist_bot (b : ℝ) : dist ⊥ (b : EReal) = ⊤ := by simp [dist]

/-- Bin 0 is not nearer than bin 63: then no bin is farther than bin 0. -/
theorem dist_le_first {b : Fin 64 → ℝ} (h0 : ∀ k, b 0 ≤ b k) (h63 : ∀ k, b k ≤ b 63) (a : EReal)
    (h : ¬ dist a (b 0) < dist a (b 63)) (k : Fin 64) : dist a (b k) ≤ dist a (b 0) := by
  induction a with
  | bot => simp [dist_bot]
  | top => simp [dist_top]
  | coe a =>
    simp only [dist_coe, EReal.coe_lt_coe_iff, EReal.coe_le_coe_iff, not_lt] at h ⊢
    have h1 := h0 k
    have h2 := h63 k
    rcases abs_cases (a - b k) with ⟨e, _⟩ | ⟨e, _⟩ <;> rcases abs_cases (a - b 0) with ⟨e', _⟩ | ⟨e', _⟩ <;>
      rcases abs_cases (a - b 63) with ⟨e'', _⟩ | ⟨e'', _⟩ <;> rw [e, e'] <;> rw [e', e''] at h <;> linarith

/-- Bin 63 is strictly farther than bin 0: then it is strictly farther than every bin before it. -/
theorem dist_lt_last {b : Fin 64 → ℝ} (h0 : ∀ k, b 0 ≤ b k) (h63 : ∀ k, k ≠ 63 → b k < b 63) (a : EReal)
    (h : dist a (b 0) < dist a (b 63)) (k : Fin 64) (hk : k ≠ 63) : dist a (b k) < dist a (b 63) := by
  induction a with
  | bot => simp [dist_bot] at h
  | top => simp [dist_top] at h
  | coe a =>
    simp only [dist_coe, EReal.coe_lt_coe_iff] at h ⊢
    have h1 := h0 k
    have h2 := h63 k hk
    rcases abs_cases (a - b k) with ⟨e, _⟩ | ⟨e, _⟩ <;> rcases abs_cases (a - b 0) with ⟨e', _⟩ | ⟨e', _⟩ <;>
      rcases abs_cases (a - b 63) with ⟨e'', _⟩ | ⟨e'', _⟩ <;> rw [e, e''] <;> rw [e', e''] at h <;> linarith

/-- One step of the arg-max: the greater value, and at a tie the lower index. -/
def step (p q : EReal × BitVec 32) : EReal × BitVec 32 :=
  if q.1 < p.1 then p else if p.1 = q.1 then (q.1, if p.2.slt q.2 then p.2 else q.2) else q

/-- Once bin 0 is held, words above it whose values are not greater leave it held. -/
theorem foldl_step_keep (v : EReal) (L : List (EReal × BitVec 32)) (h : ∀ q ∈ L, q.1 ≤ v ∧ (0#32).slt q.2) :
    L.foldl step (v, 0#32) = (v, 0#32) := by
  induction L with
  | nil => rfl
  | cons q L ih =>
    obtain ⟨h1, h2⟩ := h q (by simp)
    have : step (v, 0#32) q = (v, 0#32) := by
      unfold step
      rcases h1.lt_or_eq with h1 | h1
      · simp [h1]
      · simp [h1, h2]
    rw [List.foldl_cons, this]
    exact ih fun q hq => h q (by simp [hq])

/-- Values below a bound stay below it. -/
theorem foldl_step_lt (v : EReal) (L : List (EReal × BitVec 32)) (h : ∀ q ∈ L, q.1 < v) (p : EReal × BitVec 32) (hp : p.1 < v) :
    (L.foldl step p).1 < v := by
  induction L generalizing p with
  | nil => exact hp
  | cons q L ih =>
    rw [List.foldl_cons]
    have hq := h q (by simp)
    refine ih (fun q hq => h q (by simp [hq])) _ ?_
    unfold step
    split
    · exact hp
    · split <;> exact hq

/-- The index words of the bins after the first exceed zero as signed words. -/
theorem slt_ofNat {k : ℕ} (h0 : 0 < k) (h : k < 64) : (0#32).slt (BitVec.ofNat 32 k) = true := by
  revert h0; revert k; decide

/-- The arg-max over the sixty-four bins, from the value below all others. -/
theorem argmax_index (d : Fin 64 → EReal) (hd : ∀ k, ⊥ < d k)
    (hle : ¬ d 0 < d 63 → ∀ k, d k ≤ d 0) (hlt : d 0 < d 63 → ∀ k, k ≠ 63 → d k < d 63) :
    (((List.finRange 64).map fun k => (d k, BitVec.ofNat 32 k.val)).foldl step (⊥, 0#32)).2
      = if d 0 < d 63 then 63#32 else 0#32 := by
  split
  · next h =>
    rw [List.finRange_succ_last, List.map_append, List.foldl_append]
    have hb := foldl_step_lt (d 63) (((List.finRange 63).map Fin.castSucc).map fun k => (d k, BitVec.ofNat 32 k.val))
      (by
        simp only [List.mem_map, List.mem_finRange, true_and]
        rintro q ⟨k, ⟨k', rfl⟩, rfl⟩
        exact hlt h _ (by intro e; have := congrArg Fin.val e; have := k'.isLt; simp at *; omega))
      (⊥, 0#32) (hd 63)
    simp only [List.map_cons, List.map_nil, List.foldl_cons, List.foldl_nil]
    generalize List.foldl step (⊥, 0#32) _ = p at hb ⊢
    have e : (Fin.last 63 : Fin 64) = 63 := rfl
    rw [e]
    unfold step
    rw [if_neg (not_lt.2 hb.le), if_neg hb.ne]
    rfl
  · next h =>
    rw [List.finRange_succ, List.map_cons, List.foldl_cons]
    have e : step (⊥, 0#32) (d 0, BitVec.ofNat 32 (0 : Fin 64).val) = (d 0, 0#32) := by
      unfold step
      rw [if_neg (not_lt.2 bot_le), if_neg (hd 0).ne]
      rfl
    rw [e, foldl_step_keep]
    simp only [List.mem_map, List.mem_finRange, true_and]
    rintro q ⟨k, ⟨k', rfl⟩, rfl⟩
    refine ⟨hle h _, slt_ofNat (by simp) (Fin.isLt _)⟩

end Cert.Farthest

end
-- ==== Proof.Spec.lean ====
module

public import proofs.«01_k».proof.Proof.Farthest

/-!
The quantities both programs compute, of one row of three angles.
-/

@[expose] public section

noncomputable section

namespace Cert.Spec

open Idealize.ShloMosaic Cert.Farthest
open scoped BigOperators

/-- The first bin centre. -/
def lo : EReal := Ideal.ofBits .f32 0xC045EB9B#32

/-- The last bin centre. -/
def hi : EReal := Ideal.ofBits .f32 0x4045EB9B#32

/-- The bound on the third angle. -/
def halfPi : EReal := Ideal.ofBits .f32 0x3FC90FDB#32

open Classical in
/-- Whether the last bin is strictly farther from `a` than the first. -/
def far (a : EReal) : Bool := decide (dist a lo < dist a hi)

open Classical in
/-- Whether `|a|` exceeds the bound. -/
def big (a : EReal) : Bool := decide (halfPi < max a (-a))

/-- The cell of a row of three angles: the far bits of the first two and the bound's bit of the third. -/
def cell (a b c : EReal) : Fin 8 :=
  ⟨4 * (far a).toNat + 2 * (far b).toNat + (big c).toNat, by
    have := (far a).toNat_le; have := (far b).toNat_le; have := (big c).toNat_le; omega⟩

/-- The squared difference of the sines of two angles. -/
def dsin (x t : EReal) : EReal := (Ideal.sin x - Ideal.sin t) * (Ideal.sin x - Ideal.sin t)

/-- The squared difference of the cosines of two angles. -/
def dcos (x t : EReal) : EReal := (Ideal.cos x - Ideal.cos t) * (Ideal.cos x - Ideal.cos t)

/-- The residual of a row: the distance of the sines plus the distance of the cosines. -/
def resid (x t : Fin 3 → EReal) : EReal :=
  Ideal.sqrt (dsin (x 0) (t 0) + dsin (x 1) (t 1) + dsin (x 2) (t 2))
    + Ideal.sqrt (dcos (x 0) (t 0) + dcos (x 1) (t 1) + dcos (x 2) (t 2))

/-- The cell of row `n` of the targets. -/
def rowCell (t : Fin 1000000 → Fin 3 → EReal) (n : Fin 1000000) : Fin 8 := cell (t n 0) (t n 1) (t n 2)

/-- The residual of row `n`. -/
def rowResid (x t : Fin 1000000 → Fin 3 → EReal) (n : Fin 1000000) : EReal := resid (x n) (t n)

/-- The number of rows in a cell. -/
def cellCount (t : Fin 1000000 → Fin 3 → EReal) (c : Fin 8) : EReal := ∑ n, if rowCell t n = c then 1 else 0

/-- The residuals of the rows in a cell, added up. -/
def cellSum (x t : Fin 1000000 → Fin 3 → EReal) (c : Fin 8) : EReal := ∑ n, if rowCell t n = c then rowResid x t n else 0

end Cert.Spec

end
-- ==== Proof.Words.lean ====
module

public import Idealize.ShloMosaic.PureOps.Ideal.Laws
public import Idealize.ShloMosaic.Lib.IdealHost

/-!
What the programs' float words denote: each is an integer multiple of `2⁻³⁰`.
-/

@[expose] public section

noncomputable section

namespace Cert.Words

open Idealize.ShloMosaic

/-- The exponent field of a word. -/
def ex (w : BitVec 32) : ℕ := (w.extractLsb' 23 8).toNat

/-- The integer of which the word's value is the multiple by `2⁻³⁰`, where its exponent field is at least 120. -/
def scaled (w : BitVec 32) : ℤ :=
  (if (w.extractLsb' 31 1 == 1#1) = true then -1 else 1) * (2 ^ 23 + ((w.extractLsb' 0 23).toNat : ℤ)) * 2 ^ (ex w - 120)

/-- The real number a scaled integer stands for. -/
def unscale (z : ℤ) : ℝ := (z : ℝ) * (2 : ℝ) ^ (-30 : ℤ)

/-- The order of scaled integers is that of the numbers they stand for. -/
theorem unscale_le {a b : ℤ} (h : a ≤ b) : unscale a ≤ unscale b :=
  mul_le_mul_of_nonneg_right (by exact_mod_cast h) (by positivity)

/-- The strict order likewise. -/
theorem unscale_lt {a b : ℤ} (h : a < b) : unscale a < unscale b :=
  mul_lt_mul_of_pos_right (by exact_mod_cast h) (by positivity)

/-- A word whose exponent field is at least 120 and not all ones denotes its scaled integer times `2⁻³⁰`. -/
theorem ofBits_eq (w : BitVec 32) (h : 120 ≤ ex w ∧ ex w < 255) :
    Ideal.ofBits .f32 w = ((unscale (scaled w) : ℝ) : EReal) := by
  obtain ⟨h1, h2⟩ := h
  have e : Ideal.ofBits .f32 w = Ideal.ieee 8 23 w := rfl
  rw [e]
  unfold Ideal.ieee
  rw [if_neg (show ¬ (w.extractLsb' 23 8).toNat = 2 ^ 8 - 1 from fun h => by unfold ex at h2; omega),
    if_neg (show ¬ (w.extractLsb' 23 8).toNat = 0 from fun h => by unfold ex at h1; omega)]
  congr 1
  unfold unscale scaled
  have hx : (2 : ℝ) ^ (((w.extractLsb' 23 8).toNat : ℤ) - (2 ^ (8 - 1) - 1) - (23 : ℕ))
      = (2 : ℝ) ^ (ex w - 120) * (2 : ℝ) ^ (-30 : ℤ) := by
    rw [← zpow_natCast, ← zpow_add₀ (by norm_num)]
    congr 1
    unfold ex at *
    push_cast [Nat.cast_sub h1]
    ring
  rw [hx]
  push_cast
  split <;> ring

/-- A multiple of `2³⁰` stands for the integer itself. -/
theorem unscale_mul (k : ℤ) : unscale (k * 2 ^ 30) = k := by
  unfold unscale
  push_cast
  norm_num
  ring

/-- A word whose scaled integer is `k` times `2³⁰` denotes `k`. -/
theorem ofBits_nat (w : BitVec 32) (k : ℕ) (h : 120 ≤ ex w ∧ ex w < 255) (hk : scaled w = (k : ℤ) * 2 ^ 30) :
    Ideal.ofBits .f32 w = ((k : ℝ) : EReal) := by
  rw [ofBits_eq w h, hk, unscale_mul]; norm_cast

/-- The word of class number `c`. -/
def classWord (c : Fin 8) : BitVec 32 :=
  ![0x00000000#32, 0x3F800000#32, 0x40000000#32, 0x40400000#32, 0x40800000#32, 0x40A00000#32, 0x40C00000#32, 0x40E00000#32] c

/-- The words of the class numbers denote them. -/
theorem ofBits_class (c : Fin 8) : Ideal.ofBits .f32 (classWord c) = ((c.val : ℝ) : EReal) := by
  by_cases h : c = 0
  · subst h; exact Ideal.ofBits_zero_f32.trans (by simp)
  · have hw : ∀ c : Fin 8, c ≠ 0 → (120 ≤ ex (classWord c) ∧ ex (classWord c) < 255)
        ∧ scaled (classWord c) = (c.val : ℤ) * 2 ^ 30 := by decide +kernel
    exact ofBits_nat _ _ (hw c h).1 (hw c h).2

end Cert.Words

end
-- ==== Proof.Block.lean ====
module

public import proofs.«01_k».proof.Proof.Spec
public import proofs.«01_k».proof.Proof.Words
public import proofs.«01_k».proof.Proof.Gen.KernelIdeal.Skeleton
public import Idealize.ShloMosaic.Lib.Pointwise

/-!
What one block computes: the values of the kernel's expressions at an index.
-/

@[expose] public section

set_option maxRecDepth 16384

noncomputable section

namespace Cert.Block

open Idealize.ShloMosaic Cert.KernelIdeal Cert.KernelIdeal.Gen Cert.Spec
open scoped BigOperators

/-! ## One row of an accumulator -/

/-- The lanes of a block that start a row and hold the class value `w`. -/
def classMask (w : BitVec 32) (cellv : FVec Ideal S160x1875 .f32) (m : IVec S160x1875 1) : IVec S160x1875 1 :=
  andi m (cmpf .oeq cellv (broadcast S160x1875 (Scalar.ofBits .f32 w : Ideal .f32)))

/-- A block of ones. -/
def ones : FVec Ideal S160x1875 .f32 := broadcast S160x1875 (Scalar.ofBits .f32 0x3F800000#32 : Ideal .f32)

/-- One accumulator row after a block: the row before it plus the masked column sums of `v`. -/
def row (mask : IVec S160x1875 1) (v : FVec Ideal S160x1875 .f32) (old : FVec Ideal S1x1875 .f32) : FVec Ideal S1x1875 .f32 :=
  shapeCast S1x1875 (addf old (shapeCast S1x1875 (multiReduction .add [0] S1875
    (select mask v (broadcast S160x1875 (Scalar.ofBits .f32 0x00000000#32 : Ideal .f32))) 0x00000000#32
    reduces_S160x1875_S1875 (.inl rfl) rfl) shapeCasts_S1875_S1x1875)) shapeCasts_S1x1875_S1x1875

/-- The masked column sum on one lane. -/
def colSum (mask : IVec S160x1875 1) (v : FVec Ideal S160x1875 .f32) (j : Fin 1875) : EReal :=
  ∑ q : Fin 160, Scalar.select (mask (ix2 q j)) (v (ix2 q j)) 0

/-- An accumulator row, lane by lane. -/
theorem row_apply (mask v old) (j : S1x1875.Idx) :
    row mask v old j = old j + colSum mask v (j 1) := by
  pointwise [row, colSum]

section Rows
variable (v v82 : FVec Ideal S160x1875 .f32) (m k : IVec S160x1875 1) (a : Vec Ideal S1x1875 .f32)

/-! Each payload of the eight rows is such a row, at its own class value. -/

/-- The mask of cell 0 as the kernel writes it. -/
theorem pay12_eq (x : FVec Ideal S160x1875 .f32) (b c d e) :
    k0_pay12 (F := Ideal) x b c d e = classMask 0x00000000#32 (k0_pay10 x b c d e) (k0_pay11 b c d e) := rfl
/-- The kernel's row 0 of the sums is the generic row, under that mask. -/
theorem pay13_eq : k0_pay13 (F := Ideal) v k a = row k v a := rfl
/-- Row 0 of the counts likewise. -/
theorem pay14_eq : k0_pay14 (F := Ideal) k a = row k ones a := rfl
/-- Row 1 of the sums. -/
theorem pay16_eq : k0_pay16 (F := Ideal) v v82 m a = row (classMask 0x3F800000#32 v82 m) v a := rfl
/-- Row 1 of the counts. -/
theorem pay18_eq : k0_pay18 (F := Ideal) a (k0_pay17 v82 m) = row (classMask 0x3F800000#32 v82 m) ones a := rfl
/-- Row 2 of the sums. -/
theorem pay20_eq : k0_pay20 (F := Ideal) v v82 m a = row (classMask 0x40000000#32 v82 m) v a := rfl
/-- Row 2 of the counts. -/
theorem pay21_eq : k0_pay21 (F := Ideal) v82 m a = row (classMask 0x40000000#32 v82 m) ones a := rfl
/-- Row 3 of the sums. -/
theorem pay24_eq : k0_pay24 (F := Ideal) a (k0_pay23 v v82 m) = row (classMask 0x40400000#32 v82 m) v a := rfl
/-- Row 3 of the counts. -/
theorem pay25_eq : k0_pay25 (F := Ideal) (k0_pay22 v82 m) a = row (classMask 0x40400000#32 v82 m) ones a := rfl
/-- Row 4 of the sums. -/
theorem pay27_eq : k0_pay27 (F := Ideal) v v82 m a = row (classMask 0x40800000#32 v82 m) v a := rfl
/-- Row 4 of the counts. -/
theorem pay29_eq : k0_pay29 (F := Ideal) (k0_pay28 v82 m a) = row (classMask 0x40800000#32 v82 m) ones a := rfl
/-- Row 5 of the sums. -/
theorem pay31_eq : k0_pay31 (F := Ideal) v v82 m a = row (classMask 0x40A00000#32 v82 m) v a := rfl
/-- Row 5 of the counts. -/
theorem pay32_eq : k0_pay32 (F := Ideal) v82 m a = row (classMask 0x40A00000#32 v82 m) ones a := rfl
/-- Row 6 of the sums. -/
theorem pay34_eq : k0_pay34 (F := Ideal) v v82 m a = row (classMask 0x40C00000#32 v82 m) v a := rfl
/-- Row 6 of the counts. -/
theorem pay35_eq : k0_pay35 (F := Ideal) (k0_pay33 v82 m) a = row (classMask 0x40C00000#32 v82 m) ones a := rfl
/-- Row 7 of the sums. -/
theorem pay37_eq : k0_pay37 (F := Ideal) v v82 m a = row (classMask 0x40E00000#32 v82 m) v a := rfl
/-- Row 7 of the counts. -/
theorem pay38_eq : k0_pay38 (F := Ideal) v82 m a = row (classMask 0x40E00000#32 v82 m) ones a := rfl
end Rows

/-! ## The lanes -/

/-- The kernel's corrected lane remainder, as a word. -/
def lane : IVec S160x1875 32 := k0_pay9 3#32 k0_pay6 k0_pay7 k0_pay8

/-- On lane `j` it is `j` modulo 3. -/
theorem lane_apply (q : Fin 160) (j : Fin 1875) : lane (ix2 q j) = BitVec.ofNat 32 (j.val % 3) := by
  pointwise [lane, k0_pay9, k0_pay6, k0_pay7, k0_pay8]
  revert j
  decide +kernel

/-- The kernel's mask of lanes that start a row holds exactly the multiples of three. -/
theorem lane_start (q : Fin 160) (j : Fin 1875) :
    k0_pay11 3#32 k0_pay6 k0_pay7 k0_pay8 (ix2 q j) = if j.val % 3 = 0 then 1#1 else 0#1 := by
  have h : k0_pay9 3#32 k0_pay6 k0_pay7 k0_pay8 (ix2 q j) = _ := lane_apply q j
  have hj : j.val % 3 < 3 := Nat.mod_lt _ (by decide)
  pointwise! [k0_pay11]
  rw [h]
  generalize j.val % 3 = k at hj
  interval_cases k <;> rfl

/-- Lane `d` of the row that starts at lane `j`. -/
def lane3 (j : Fin 1875) (hj : j.val % 3 = 0) (d : Fin 3) : Fin 1875 :=
  ⟨j.val + d.val, by have := j.isLt; have := d.isLt; omega⟩

/-- The residual of the row starting at lane `j`. -/
theorem resid_apply (x t) (q : Fin 160) (j : Fin 1875) (hj : j.val % 3 = 0) :
    k0_pay5 (F := Ideal) x t (ix2 q j)
      = resid (fun d => x (ix2 q (lane3 j hj d))) (fun d => t (ix2 q (lane3 j hj d))) := by
  have h1 : j.val < 1874 := by have := j.isLt; omega
  have h2 : j.val < 1873 := by have := j.isLt; omega
  have e0 : lane3 j hj 0 = j := rfl
  have e1 : lane3 j hj 1 = ⟨1 + j.val, by omega⟩ := Fin.ext (Nat.add_comm _ _)
  have e2 : lane3 j hj 2 = ⟨2 + j.val, by omega⟩ := Fin.ext (Nat.add_comm _ _)
  pointwise [k0_pay5, k0_pay4]
  simp only [h1, h2, dif_pos, resid, dsin, dcos, e0, e1, e2]

/-- A bit as a number, through the widened word. -/
theorem toReal_bit (b : Bool) :
    (((BitVec.setWidth 32 (BitVec.ofBool b)).toInt : ℝ) : EReal) = ((b.toNat : ℝ) : EReal) := by
  cases b <;> simp

/-- The cell value of the row starting at lane `j`: the cell's number. -/
theorem cellv_apply (t : FVec Ideal S160x1875 .f32) (q : Fin 160) (j : Fin 1875) (hj : j.val % 3 = 0) :
    k0_pay10 (F := Ideal) t 3#32 k0_pay6 k0_pay7 k0_pay8 (ix2 q j)
      = (((cell (t (ix2 q (lane3 j hj 0))) (t (ix2 q (lane3 j hj 1))) (t (ix2 q (lane3 j hj 2)))).val : ℝ) : EReal) := by
  have h1 : j.val < 1874 := by have := j.isLt; omega
  have h2 : j.val < 1873 := by have := j.isLt; omega
  have e0 : lane3 j hj 0 = j := rfl
  have e1 : lane3 j hj 1 = ⟨1 + j.val, by omega⟩ := Fin.ext (Nat.add_comm _ _)
  have e2 : lane3 j hj 2 = ⟨2 + j.val, by omega⟩ := Fin.ext (Nat.add_comm _ _)
  have l0 : k0_pay9 3#32 k0_pay6 k0_pay7 k0_pay8 (ix2 q j) = 0#32 := (lane_apply q j).trans (by rw [hj])
  have l1 : k0_pay9 3#32 k0_pay6 k0_pay7 k0_pay8 (ix2 q ⟨1 + j.val, by omega⟩) = 1#32 :=
    (lane_apply q _).trans (by rw [show (1 + j.val) % 3 = 1 by omega])
  have l2 : k0_pay9 3#32 k0_pay6 k0_pay7 k0_pay8 (ix2 q ⟨2 + j.val, by omega⟩) = 2#32 :=
    (lane_apply q _).trans (by rw [show (2 + j.val) % 3 = 2 by omega])
  pointwise [k0_pay10]
  simp only [h1, h2, dif_pos, e0, e1, e2, l0, l1, l2]
  have w4 : Ideal.ofBits .f32 1082130432#32 = ((4 : ℝ) : EReal) := Words.ofBits_class 4
  have w2 : Ideal.ofBits .f32 1073741824#32 = ((2 : ℝ) : EReal) := Words.ofBits_class 2
  have f0 : ∀ b : Bool, (FloatOps.sitofp (F := Ideal) FTy.f32 (BitVec.setWidth 32 (BitVec.ofBool b)) : EReal)
      = ((b.toNat : ℝ) : EReal) := toReal_bit
  have s00 : ∀ a b : EReal, Scalar.select (IntOp.cmpi .eq 0#32 0#32) a b = a := fun _ _ => rfl
  have s10 : ∀ a b : EReal, Scalar.select (IntOp.cmpi .eq 1#32 0#32) a b = b := fun _ _ => rfl
  have s11 : ∀ a b : EReal, Scalar.select (IntOp.cmpi .eq 1#32 1#32) a b = a := fun _ _ => rfl
  have s20 : ∀ a b : EReal, Scalar.select (IntOp.cmpi .eq 2#32 0#32) a b = b := fun _ _ => rfl
  have s21 : ∀ a b : EReal, Scalar.select (IntOp.cmpi .eq 2#32 1#32) a b = b := fun _ _ => rfl
  simp only [s00, s10, s11, s20, s21, w4, w2, f0]
  rw [← EReal.coe_mul, ← EReal.coe_mul, ← EReal.coe_add, ← EReal.coe_add]
  congr 1
  unfold cell
  push_cast
  rfl

/-- The final scalar: each accumulator row added up, the quotients of the rows with a positive count added up and divided by the number of rows. -/
theorem k0_pay1_apply (a b) :
  k0_pay1 (F := Ideal) a b = Ideal.div (∑ s : Fin 8, if 0 < ∑ j : Fin 1875, b (ix2 s j) then
      Ideal.div (∑ j : Fin 1875, a (ix2 s j)) (∑ j : Fin 1875, b (ix2 s j)) else 0)
      (Ideal.ofBits .f32 0x49742400#32) := by
  unfold k0_pay1
  pointwise []
  simp

end Cert.Block

end
-- ==== Proof.Rows.lean ====
module

public import proofs.«01_k».proof.Proof.Block
public import proofs.«01_k».proof.Proof.Gen.KernelIdeal.Frame
public import Idealize.ShloMosaic.Lib.Pipeline.ValueKit
public import Idealize.ShloMosaic.Lib.Pipeline.ReadBack

/-!
What one grid point leaves in the two accumulators: each entry gains the masked column sum of its class.
-/

@[expose] public section

set_option maxRecDepth 16384

noncomputable section

namespace Cert.Rows

open Idealize.ShloMosaic Cert.KernelIdeal Cert.KernelIdeal.Gen Cert.Spec Cert.Block
open Idealize.ShloMosaic.TcCoe

/-- The mask of class `s` on a block of targets. -/
def maskOf (t : FVec Ideal S160x1875 .f32) (s : Fin 8) : IVec S160x1875 1 :=
  classMask (Words.classWord s) (k0_pay10 (F := Ideal) t 3#32 k0_pay6 k0_pay7 k0_pay8) (k0_pay11 3#32 k0_pay6 k0_pay7 k0_pay8)

/-- The targets enter as they are. -/
theorem pay4_eq (t : Vec Ideal S160x1875 .f32) : k0_pay4 (F := Ideal) t = t := by
  funext y
  pointwise [k0_pay4]

/-- An accumulator after a block with targets `t` and summand `v`. -/
def next (v t : FVec Ideal S160x1875 .f32) (a : Vec Ideal S8x1875 .f32) : Vec Ideal S8x1875 .f32 :=
  fun y => a y + colSum (maskOf t (y 0)) v (y 1)

/-- The store of row `s`. -/
def rowPiece (v t : FVec Ideal S160x1875 .f32) (a : Vec Ideal S8x1875 .f32) (s : Fin 8)
    (inb : ∀ d, (![s.val, 0] : Fin 2 → ℕ) d + S1x1875.size d ≤ S8x1875.size d) : View.Piece (Elt Ideal) S8x1875 .f32 :=
  ⟨Rect.unit ![s.val, 0] S1x1875.size inb, row (maskOf t s) v (View.ld a (Rect.unit ![s.val, 0] S1x1875.size inb))⟩

/-- It is a piece of the whole new accumulator. -/
theorem rowPiece_apply (v t a s inb) (x : (rowPiece v t a s inb).1.shape.Idx) :
    (rowPiece v t a s inb).2 x = next v t a ((rowPiece v t a s inb).1.idx x) := by
  have e0 : ((rowPiece v t a s inb).1.idx x) 0 = s := by
    apply Fin.ext
    have : (x 0).val < 1 := (x 0).isLt
    show s.val + 1 * (x 0).val = s.val
    omega
  have e1 : ((rowPiece v t a s inb).1.idx x) 1 = x 1 := by
    apply Fin.ext
    show 0 + 1 * (x 1).val = (x 1).val
    omega
  unfold next
  rw [e0, e1]
  exact row_apply _ _ _ x

/-- The eight stores of an accumulator, the last first. -/
def rowPieces (v t : FVec Ideal S160x1875 .f32) (a : Vec Ideal S8x1875 .f32) : List (View.Piece (Elt Ideal) S8x1875 .f32) :=
  [rowPiece v t a 7 inb_S8x1875_S1x1875_7_0, rowPiece v t a 6 inb_S8x1875_S1x1875_6_0, rowPiece v t a 5 inb_S8x1875_S1x1875_5_0,
   rowPiece v t a 4 inb_S8x1875_S1x1875_4_0, rowPiece v t a 3 inb_S8x1875_S1x1875_3_0, rowPiece v t a 2 inb_S8x1875_S1x1875_2_0,
   rowPiece v t a 1 inb_S8x1875_S1x1875_1_0, rowPiece v t a 0 inb_S8x1875_S1x1875_0_0]

/-- The eight stores, over anything stored before, leave the new accumulator. -/
theorem canon_rows (v t a) (L : List (View.Piece (Elt Ideal) S8x1875 .f32)) :
    View.canon (rowPieces v t a ++ L) = next v t a := by
  funext y
  refine View.canon_append_of_piecesOf (next v t a) L (rowPieces v t a) ?_ y
    (View.cover_of_tiledL (rowPieces v t a) S1x1875.size (by sl_kernel_rfl) y)
  exact ⟨rowPiece_apply v t a _ _, rowPiece_apply v t a _ _, rowPiece_apply v t a _ _, rowPiece_apply v t a _ _,
    rowPiece_apply v t a _ _, rowPiece_apply v t a _ _, rowPiece_apply v t a _ _, rowPiece_apply v t a _ _, trivial⟩

end Cert.Rows
end
-- ==== Proof.Acc.lean ====
module

public import proofs.«01_k».proof.Proof.Rows

/-!
The accumulators after each grid point.
-/

@[expose] public section

set_option maxRecDepth 16384

noncomputable section

namespace Cert.Acc

open Idealize.ShloMosaic Cert.KernelIdeal Cert.KernelIdeal.Gen Cert.Spec Cert.Block Cert.Rows
open Idealize.ShloMosaic.TcCoe
variable (m : (ℓ : Loc nD τ sig) → Buf (Elt Ideal) ℓ)

/-- At a middle point the accumulator of sums gains its block's masked column sums of residuals. -/
theorem sums_B (c : Dev nD) (t : Fin cfg0.N) (h0 : ¬ t.val % 10 = 0) (h1 : ¬t.val % 10 = 9) :
   (outsAt0 m c t.val t.isLt).2.1 = next (k0_pay5 (iblk m c 0 t) (iblk m c 1 t)) (iblk m c 1 t)
     (outsAt0 m c (t.val - 1) (Nat.lt_of_le_of_lt (Nat.sub_le _ _) t.isLt)).2.1 := by
  rw [outsAt0_B m c t h0 h1]
  generalize (outsAt0 m c (t.val - 1) (Nat.lt_of_le_of_lt (Nat.sub_le _ _) t.isLt)).2.1 = a0
  generalize (outsAt0 m c (t.val - 1) (Nat.lt_of_le_of_lt (Nat.sub_le _ _) t.isLt)).2.2 = a1
  frame_open
  simp (disch := decide) only [↓ View.readCov_skip, ↓ View.readCov_cons_toLoadRect, ↓ View.readCov_fill]
  frame_out
  simp only [pay12_eq, pay13_eq, pay16_eq, pay20_eq, pay24_eq, pay27_eq, pay31_eq, pay34_eq, pay37_eq, pay4_eq, read_unread_whole]
  exact canon_rows _ _ _ []

/-- At a middle point the accumulator of counts gains its block's masked column sums of ones. -/
theorem counts_B (c : Dev nD) (t : Fin cfg0.N) (h0 : ¬ t.val % 10 = 0) (h1 : ¬t.val % 10 = 9) :
   (outsAt0 m c t.val t.isLt).2.2 = next ones (iblk m c 1 t)
     (outsAt0 m c (t.val - 1) (Nat.lt_of_le_of_lt (Nat.sub_le _ _) t.isLt)).2.2 := by
  rw [outsAt0_B m c t h0 h1]
  generalize (outsAt0 m c (t.val - 1) (Nat.lt_of_le_of_lt (Nat.sub_le _ _) t.isLt)).2.1 = a0
  generalize (outsAt0 m c (t.val - 1) (Nat.lt_of_le_of_lt (Nat.sub_le _ _) t.isLt)).2.2 = a1
  frame_open
  simp (disch := decide) only [↓ View.readCov_skip, ↓ View.readCov_cons_toLoadRect, ↓ View.readCov_fill]
  frame_out
  simp only [pay12_eq, pay14_eq, pay18_eq, pay21_eq, pay25_eq, pay29_eq, pay32_eq, pay35_eq, pay38_eq, pay4_eq, read_unread_whole]
  exact canon_rows _ _ _ []

/-- At the first point the accumulator of sums is the block's gain over the zero array. -/
theorem sums_A (c : Dev nD) (t : Fin cfg0.N) (h0 : t.val % 10 = 0) (h1 : ¬t.val % 10 = 9) :
   (outsAt0 m c t.val t.isLt).2.1 = next (k0_pay5 (iblk m c 0 t) (iblk m c 1 t)) (iblk m c 1 t) (k0_pay2 (F := Ideal)) := by
  rw [outsAt0_A m c t h0 h1]
  frame_open
  simp (disch := decide) only [↓ View.readCov_skip, ↓ View.readCov_cons_toLoadRect, ↓ View.readCov_fill]
  frame_out
  simp only [pay12_eq, pay13_eq, pay16_eq, pay20_eq, pay24_eq, pay27_eq, pay31_eq, pay34_eq, pay37_eq, pay4_eq, read_unread_whole]
  exact canon_rows _ _ _ [_]

/-- At the first point the accumulator of counts is the block's gain over the zero array. -/
theorem counts_A (c : Dev nD) (t : Fin cfg0.N) (h0 : t.val % 10 = 0) (h1 : ¬t.val % 10 = 9) :
   (outsAt0 m c t.val t.isLt).2.2 = next ones (iblk m c 1 t) (k0_pay3 (F := Ideal)) := by
  rw [outsAt0_A m c t h0 h1]
  frame_open
  simp (disch := decide) only [↓ View.readCov_skip, ↓ View.readCov_cons_toLoadRect, ↓ View.readCov_fill]
  frame_out
  simp only [pay12_eq, pay14_eq, pay18_eq, pay21_eq, pay25_eq, pay29_eq, pay32_eq, pay35_eq, pay38_eq, pay4_eq, read_unread_whole]
  exact canon_rows _ _ _ [_]

/-- A whole load after the eight stores reads the new accumulator. -/
theorem load_sums (v t a) :
    (View.whole cc0_scratch0).readCov (rowPieces v t a) (Rect.unit (s := S8x1875) ![0, 0] S8x1875.size inb_S8x1875_S8x1875_0_0).toLoadRect
      = next v t a := by
  rw [View.readCov_eq_canon']
  have h := canon_rows v t a []
  rw [List.append_nil] at h
  rw [h]
  exact View.ld_unit_lit inb_S8x1875_S8x1875_0_0 _ (by decide)

/-- The same for the accumulator of counts. -/
theorem load_counts (v t a) :
    (View.whole cc0_scratch1).readCov (rowPieces v t a) (Rect.unit (s := S8x1875) ![0, 0] S8x1875.size inb_S8x1875_S8x1875_0_0).toLoadRect
      = next v t a := by
  rw [View.readCov_eq_canon']
  have h := canon_rows v t a []
  rw [List.append_nil] at h
  rw [h]
  exact View.ld_unit_lit inb_S8x1875_S8x1875_0_0 _ (by decide)

/-- At the last point the result block holds the final scalar of both accumulators after the last block. -/
theorem out_C (c : Dev nD) (t : Fin cfg0.N) (h0 : ¬ t.val % 10 = 0) (h1 : t.val % 10 = 9) (y : S1x1.Idx) :
   (outsAt0 m c t.val t.isLt).1 y = k0_pay1
    (next (k0_pay5 (iblk m c 0 t) (iblk m c 1 t)) (iblk m c 1 t)
     (outsAt0 m c (t.val - 1) (Nat.lt_of_le_of_lt (Nat.sub_le _ _) t.isLt)).2.1)
    (next ones (iblk m c 1 t)
     (outsAt0 m c (t.val - 1) (Nat.lt_of_le_of_lt (Nat.sub_le _ _) t.isLt)).2.2) := by
  rw [outsAt0_C m c t h0 h1]
  generalize (outsAt0 m c (t.val - 1) (Nat.lt_of_le_of_lt (Nat.sub_le _ _) t.isLt)).2.1 = a0
  generalize (outsAt0 m c (t.val - 1) (Nat.lt_of_le_of_lt (Nat.sub_le _ _) t.isLt)).2.2 = a1
  frame_open
  simp (disch := decide) only [↓ View.readCov_skip, ↓ View.readCov_cons_toLoadRect, ↓ View.readCov_fill]
  frame_out
  simp only [pay12_eq, pay13_eq, pay16_eq, pay20_eq, pay24_eq, pay27_eq, pay31_eq, pay34_eq, pay37_eq, pay14_eq, pay18_eq, pay21_eq, pay25_eq, pay29_eq, pay32_eq, pay35_eq, pay38_eq, pay4_eq, read_unread_whole]
  exact congrArg₂ (k0_pay1 (F := Ideal)) (load_sums _ _ _) (load_counts _ _ _)

end Cert.Acc
end
-- ==== Proof.Entry.lean ====
module

public import proofs.«01_k».proof.Proof.Acc
public import Idealize.ShloMosaic.Lib.Claim

/-!
What the kernel's blocks hold.
-/

@[expose] public section

set_option maxRecDepth 16384

noncomputable section

namespace Cert.Entry

open Idealize.ShloMosaic Cert.KernelIdeal Cert.KernelIdeal.Gen Cert.Spec Cert.Block Cert.Rows
open Idealize.ShloMosaic.TcCoe
variable (m : (ℓ : Loc nD τ sig) → Buf (Elt Ideal) ℓ)

/-- The row of the argument that lane `j` of block row `q` at point `t` belongs to. -/
def rowOf (t : Fin cfg0.N) (q : Fin 160) (j : Fin 1875) : Fin 1000000 :=
  ⟨625 * (160 * t.val + q.val) + j.val / 3, by
    have : t.val < 10 := t.isLt
    have := q.isLt; have := j.isLt; omega⟩

/-- Where each window's block stands at each point. -/
theorem idx : ∀ t : Fin cfg0.N, win0_0.index t = ![t.val, 0] ∧ win0_1.index t = ![t.val, 0] := by decide +kernel

/-- The inputs enter the region flattened to rows of 1875. -/
theorem V_inputs (c : Dev nD) :
    V m c main_v0 = shapeCast S1600x1875 (m ((c.tc : Thread nD τ).loc main_arg0)) shapeCasts_S1000000x3_S1600x1875 := by
  entry_read
  try rfl

/-- The targets likewise. -/
theorem V_targets (c : Dev nD) :
    V m c main_v1 = shapeCast S1600x1875 (m ((c.tc : Thread nD τ).loc main_arg1)) shapeCasts_S1000000x3_S1600x1875 := by
  entry_read
  try rfl

/-- The flattened array at an index. -/
theorem flat (x : S1000000x3.Idx → EReal) (p : Fin 1600) (j : Fin 1875) :
    shapeCast S1600x1875 x shapeCasts_S1000000x3_S1600x1875 (ix2 p j)
      = x (ix2 ⟨625 * p.val + j.val / 3, by have := p.isLt; have := j.isLt; omega⟩ ⟨j.val % 3, Nat.mod_lt _ (by decide)⟩) := by
  pointwise []
  exact congrArg (fun r => x (ix2 r _)) (Fin.ext (show p.val * 625 + j.val / 3 = 625 * p.val + j.val / 3 by omega))

/-- Block `t` of the inputs is rows `160 t` to `160 t + 159` of the flattened array. -/
theorem blk_inputs (c : Dev nD) (t : Fin cfg0.N) (q : Fin 160) (j : Fin 1875) :
    iblk m c 0 t (ix2 q j) = V m c main_v0 (ix2 ⟨160 * t.val + q.val, by have : t.val < 10 := t.isLt; omega⟩ j) := by
  generalize hV : V m c main_v0 = f
  unfold iblk
  show (win0_0.blk t).view.read (Elt Ideal) (V m c main_v0) (ix2 q j) = _
  rw [hV]
  blk_ext [idx t]

/-- Block `t` of the targets likewise. -/
theorem blk_targets (c : Dev nD) (t : Fin cfg0.N) (q : Fin 160) (j : Fin 1875) :
    iblk m c 1 t (ix2 q j) = V m c main_v1 (ix2 ⟨160 * t.val + q.val, by have : t.val < 10 := t.isLt; omega⟩ j) := by
  generalize hV : V m c main_v1 = f
  unfold iblk
  show (win0_1.blk t).view.read (Elt Ideal) (V m c main_v1) (ix2 q j) = _
  rw [hV]
  blk_ext [idx t]

/-- A block of the inputs at an index. -/
theorem inputs_apply (c : Dev nD) (t : Fin cfg0.N) (q : Fin 160) (j : Fin 1875) :
    iblk m c 0 t (ix2 q j) = m ((c.tc : Thread nD τ).loc main_arg0) (ix2 (rowOf t q j) ⟨j.val % 3, Nat.mod_lt _ (by decide)⟩) := by
  rw [blk_inputs, V_inputs]
  exact flat _ _ _

/-- A block of the targets at an index. -/
theorem targets_apply (c : Dev nD) (t : Fin cfg0.N) (q : Fin 160) (j : Fin 1875) :
    iblk m c 1 t (ix2 q j) = m ((c.tc : Thread nD τ).loc main_arg1) (ix2 (rowOf t q j) ⟨j.val % 3, Nat.mod_lt _ (by decide)⟩) := by
  rw [blk_targets, V_targets]
  exact flat _ _ _

end Cert.Entry
end
-- ==== Proof.Grouping.lean ====
module

public import Idealize.ShloMosaic.PureOps.Ideal
public import Idealize.ShloMosaic.PureOps.Ideal.Laws
public import Idealize.ShloMosaic.Lib.Pipeline.ValueKit

/-!
The equation of the two sums. Dividing every term by the size of its group and adding up everything is adding up every
group and dividing the group's sum by its size, the empty groups counting zero; and the rows read through the kernel's
blocks of 160 rows of 625 triples are all rows.
-/

@[expose] public section

noncomputable section

namespace Cert.Grouping

open Idealize.ShloMosaic
open scoped BigOperators

/-- A positive real factor passes through a sum of extended reals. -/
theorem sum_mul_coe {ι : Type*} (s : Finset ι) (f : ι → EReal) {y : ℝ} (hy : 0 ≤ y) :
    (∑ i ∈ s, f i) * (y : EReal) = ∑ i ∈ s, f i * (y : EReal) := by
  classical
  induction s using Finset.induction_on with
  | empty => simp
  | insert a s ha ih =>
    rw [Finset.sum_insert ha, Finset.sum_insert ha,
      EReal.right_distrib_of_nonneg_of_ne_top (by exact_mod_cast hy) (EReal.coe_ne_top y), ih]

/-- Division by a positive natural passes through a sum of extended reals. -/
theorem sum_div_natCast {ι : Type*} (s : Finset ι) (f : ι → EReal) {k : ℕ} (hk : k ≠ 0) :
    Ideal.div (∑ i ∈ s, f i) ((k : ℝ) : EReal) = ∑ i ∈ s, Ideal.div (f i) ((k : ℝ) : EReal) := by
  have h : (k : ℝ) ≠ 0 := by exact_mod_cast hk
  simp only [Ideal.div_coe h]
  exact sum_mul_coe s f (by positivity)

/-- A sum of ones is the number of summands. -/
theorem sum_one {ι : Type*} (s : Finset ι) : ∑ _i ∈ s, (1 : EReal) = ((s.card : ℝ) : EReal) := by
  rw [Finset.sum_const, nsmul_one]
  simp

/-- The sum of every term over the size of its group is the sum over the groups of the group's sum over its size. -/
theorem sum_div_group {ι κ : Type*} [Fintype ι] [Fintype κ] [DecidableEq κ] (cell : ι → κ) (r : ι → EReal) :
    ∑ n, Ideal.div (r n) (∑ m, if cell m = cell n then (1 : EReal) else 0)
      = ∑ c, if 0 < (∑ n, if cell n = c then (1 : EReal) else 0) then
          Ideal.div (∑ n, if cell n = c then r n else 0) (∑ n, if cell n = c then (1 : EReal) else 0) else 0 := by
  have hc : ∀ c : κ, (∑ m, if cell m = c then (1 : EReal) else 0)
      = (((Finset.univ.filter fun m => cell m = c).card : ℝ) : EReal) := fun c => by
    rw [← Finset.sum_filter, sum_one]
  simp only [hc]
  rw [← Finset.sum_fiberwise Finset.univ cell]
  refine Finset.sum_congr rfl fun c _ => ?_
  rw [Finset.sum_congr rfl (g := fun n => Ideal.div (r n) (((Finset.univ.filter fun m => cell m = c).card : ℝ) : EReal))
    (fun n hn => by rw [(Finset.mem_filter.1 hn).2])]
  by_cases h : (Finset.univ.filter fun m => cell m = c).card = 0
  · rw [Finset.card_eq_zero] at h
    simp [h]
  · rw [if_pos (by exact_mod_cast Nat.pos_of_ne_zero h), ← Finset.sum_filter, sum_div_natCast _ _ h]

/-- A sum over 1875 lanes that keeps every third lane is a sum over 625 triples. -/
theorem sum_lanes {M : Type*} [AddCommMonoid M] (g : ℕ → M) :
    (∑ j : Fin 1875, if j.val % 3 = 0 then g (j.val / 3) else 0) = ∑ k : Fin 625, g k.val := by
  rw [Fin.sum_univ_eq_sum_range (fun j => if j % 3 = 0 then g (j / 3) else 0) 1875,
    Fin.sum_univ_eq_sum_range g 625, show (1875 : ℕ) = 625 * 3 from rfl, Finset.sum_range_mul_split]
  refine Finset.sum_congr rfl fun k _ => ?_
  simp [Finset.sum_range_succ, Nat.mul_add_mod]

/-- Every row once: the ten blocks of 160 rows of 625 triples. -/
theorem sum_blocks {M : Type*} [AddCommMonoid M] (f : ℕ → M) :
    (∑ j : Fin 1875, ∑ t : Fin 10, ∑ q : Fin 160, if j.val % 3 = 0 then f (625 * (160 * t.val + q.val) + j.val / 3) else 0)
      = ∑ n : Fin 1000000, f n.val := by
  have h : ∀ j : Fin 1875, (∑ t : Fin 10, ∑ q : Fin 160, if j.val % 3 = 0 then f (625 * (160 * t.val + q.val) + j.val / 3) else 0)
      = if j.val % 3 = 0 then (fun k => ∑ t : Fin 10, ∑ q : Fin 160, f (625 * (160 * t.val + q.val) + k)) (j.val / 3) else 0 := by
    intro j
    split <;> simp
  simp only [h]
  rw [sum_lanes (fun k => ∑ t : Fin 10, ∑ q : Fin 160, f (625 * (160 * t.val + q.val) + k)), Finset.sum_comm]
  rw [Fin.sum_univ_eq_sum_range f 1000000, show (1000000 : ℕ) = 10 * 100000 from rfl, Finset.sum_range_mul_split,
    Finset.sum_range]
  refine Finset.sum_congr rfl fun t _ => ?_
  rw [Finset.sum_comm, show (100000 : ℕ) = 160 * 625 from rfl, Finset.sum_range_mul_split, Finset.sum_range]
  refine Finset.sum_congr rfl fun q _ => ?_
  rw [Finset.sum_range]
  refine Finset.sum_congr rfl fun k _ => congrArg f ?_
  ring

end Cert.Grouping

end
-- ==== Proof.Total.lean ====
module

public import proofs.«01_k».proof.Proof.Entry
public import proofs.«01_k».proof.Proof.Grouping

/-!
The accumulators after the last block, and the kernel's result, as sums over the rows of the arguments.
-/

@[expose] public section

set_option maxRecDepth 16384

noncomputable section

namespace Cert.Total

open Idealize.ShloMosaic Cert.KernelIdeal Cert.KernelIdeal.Gen Cert.Spec Cert.Block Cert.Rows Cert.Acc Cert.Entry
open Idealize.ShloMosaic.TcCoe
open scoped BigOperators
variable (m : (ℓ : Loc nD τ sig) → Buf (Elt Ideal) ℓ)

/-- The inputs of device `c`, row by row. -/
def xs (c : Dev nD) : Fin 1000000 → Fin 3 → EReal := fun n d => m ((c.tc : Thread nD τ).loc main_arg0) (ix2 n d)

/-- The targets of device `c`, row by row. -/
def ts (c : Dev nD) : Fin 1000000 → Fin 3 → EReal := fun n d => m ((c.tc : Thread nD τ).loc main_arg1) (ix2 n d)

/-- The three lanes of a row belong to that row. -/
theorem rowOf_lane3 (t : Fin cfg0.N) (q : Fin 160) (j : Fin 1875) (hj : j.val % 3 = 0) (d : Fin 3) :
    rowOf t q (lane3 j hj d) = rowOf t q j :=
  Fin.ext (by
    show 625 * (160 * t.val + q.val) + (j.val + d.val) / 3 = 625 * (160 * t.val + q.val) + j.val / 3
    have := d.isLt; omega)

/-- The three lanes of a row hold the row's inputs. -/
theorem inputs_lane3 (c : Dev nD) (t : Fin cfg0.N) (q : Fin 160) (j : Fin 1875) (hj : j.val % 3 = 0) (d : Fin 3) :
    iblk m c 0 t (ix2 q (lane3 j hj d)) = xs m c (rowOf t q j) d := by
  rw [inputs_apply, rowOf_lane3]
  exact congrArg (fun k => xs m c (rowOf t q j) k) (Fin.ext (show (j.val + d.val) % 3 = d.val by have := d.isLt; omega))

/-- The three lanes of a row hold the row's targets. -/
theorem targets_lane3 (c : Dev nD) (t : Fin cfg0.N) (q : Fin 160) (j : Fin 1875) (hj : j.val % 3 = 0) (d : Fin 3) :
    iblk m c 1 t (ix2 q (lane3 j hj d)) = ts m c (rowOf t q j) d := by
  rw [targets_apply, rowOf_lane3]
  exact congrArg (fun k => ts m c (rowOf t q j) k) (Fin.ext (show (j.val + d.val) % 3 = d.val by have := d.isLt; omega))

/-- The residual a block computes on a lane that starts a row. -/
theorem resid_at (c : Dev nD) (t : Fin cfg0.N) (q : Fin 160) (j : Fin 1875) (hj : j.val % 3 = 0) :
    k0_pay5 (F := Ideal) (iblk m c 0 t) (iblk m c 1 t) (ix2 q j) = rowResid (xs m c) (ts m c) (rowOf t q j) := by
  rw [resid_apply _ _ q j hj]
  unfold rowResid
  exact congrArg₂ resid (funext fun d => inputs_lane3 m c t q j hj d) (funext fun d => targets_lane3 m c t q j hj d)

/-- What a class keeps of a summand: the lanes that start a row of its cell. -/
theorem select_mask (c : Dev nD) (t : Fin cfg0.N) (s : Fin 8) (q : Fin 160) (j : Fin 1875) (a : EReal) :
    Scalar.select (maskOf (iblk m c 1 t) s (ix2 q j)) a 0
      = if j.val % 3 = 0 then (if rowCell (ts m c) (rowOf t q j) = s then a else 0) else 0 := by
  have hm : maskOf (iblk m c 1 t) s (ix2 q j)
      = IntOp.andi (k0_pay11 3#32 k0_pay6 k0_pay7 k0_pay8 (ix2 q j))
          (Ideal.cmp .oeq (k0_pay10 (F := Ideal) (iblk m c 1 t) 3#32 k0_pay6 k0_pay7 k0_pay8 (ix2 q j))
            (Ideal.ofBits .f32 (Words.classWord s))) := rfl
  rw [hm, lane_start, Words.ofBits_class]
  by_cases hj : j.val % 3 = 0
  · rw [if_pos hj, if_pos hj, cellv_apply _ q j hj, targets_lane3, targets_lane3, targets_lane3]
    have hc : Ideal.cmp .oeq (((cell (ts m c (rowOf t q j) 0) (ts m c (rowOf t q j) 1) (ts m c (rowOf t q j) 2)).val : ℝ) : EReal) ((s.val : ℝ) : EReal)
        = if rowCell (ts m c) (rowOf t q j) = s then 1#1 else 0#1 := by
      unfold rowCell
      generalize cell (ts m c (rowOf t q j) 0) (ts m c (rowOf t q j) 1) (ts m c (rowOf t q j) 2) = k
      have : (((k.val : ℝ) : EReal) = ((s.val : ℝ) : EReal)) ↔ k = s := by
        rw [EReal.coe_eq_coe_iff, Nat.cast_inj, Fin.ext_iff]
      by_cases h : k = s
      · subst h; simp [Ideal.cmp]
      · have h' := mt this.mp h
        rw [if_neg h]
        show BitVec.ofBool (decide (((k.val : ℝ) : EReal) = ((s.val : ℝ) : EReal))) = 0#1
        rw [decide_eq_false h']; rfl
    rw [hc]
    by_cases h : rowCell (ts m c) (rowOf t q j) = s
    · rw [if_pos h, if_pos h]; rfl
    · rw [if_neg h, if_neg h]; rfl
  · rw [if_neg hj, if_neg hj]
    have : ∀ b : BitVec 1, IntOp.andi 0#1 b = 0#1 := by decide
    rw [this]; rfl

/-- A row of the arguments by its number, nothing past the last. -/
def byRow (f : Fin 1000000 → EReal) (n : ℕ) : EReal := if h : n < 1000000 then f ⟨n, h⟩ else 0

/-- At the number of a block's row it is the function at that row. -/
theorem byRow_rowOf (f : Fin 1000000 → EReal) (t : Fin cfg0.N) (q : Fin 160) (j : Fin 1875) :
    byRow f (625 * (160 * t.val + q.val) + j.val / 3) = f (rowOf t q j) := dif_pos (rowOf t q j).isLt

/-- The gain of the sums at a point. -/
theorem gain_sums (c : Dev nD) (t : Fin cfg0.N) (s : Fin 8) (j : Fin 1875) :
    colSum (maskOf (iblk m c 1 t) s) (k0_pay5 (F := Ideal) (iblk m c 0 t) (iblk m c 1 t)) j
      = ∑ q : Fin 160, if j.val % 3 = 0 then
          byRow (fun n => if rowCell (ts m c) n = s then rowResid (xs m c) (ts m c) n else 0) (625 * (160 * t.val + q.val) + j.val / 3) else 0 := by
  unfold colSum
  refine Finset.sum_congr rfl fun q _ => ?_
  rw [select_mask, byRow_rowOf]
  by_cases hj : j.val % 3 = 0
  · rw [if_pos hj, if_pos hj, resid_at m c t q j hj]
  · rw [if_neg hj, if_neg hj]

/-- The gain of the counts at a point. -/
theorem gain_counts (c : Dev nD) (t : Fin cfg0.N) (s : Fin 8) (j : Fin 1875) :
    colSum (maskOf (iblk m c 1 t) s) ones j
      = ∑ q : Fin 160, if j.val % 3 = 0 then
          byRow (fun n => if rowCell (ts m c) n = s then 1 else 0) (625 * (160 * t.val + q.val) + j.val / 3) else 0 := by
  unfold colSum
  refine Finset.sum_congr rfl fun q _ => ?_
  have h1 : ones (ix2 q j) = 1 := Ideal.ofBits_one_f32
  rw [select_mask, byRow_rowOf, h1]

/-- The sums after point `n`, for `n` before the last: the gains so far. -/
theorem sums_upto (c : Dev nD) (y : S8x1875.Idx) : ∀ (n : ℕ) (hn : n < cfg0.N), n < 9 →
    (outsAt0 m c n hn).2.1 y = ∑ k ∈ Finset.range (n + 1), if h : k < cfg0.N then
      colSum (maskOf (iblk m c 1 ⟨k, h⟩) (y 0)) (k0_pay5 (F := Ideal) (iblk m c 0 ⟨k, h⟩) (iblk m c 1 ⟨k, h⟩)) (y 1) else 0
  | 0, hn, _ => by
    rw [Finset.sum_range_one, dif_pos hn]
    refine (congrFun (sums_A m c ⟨0, hn⟩ rfl (show ¬ 0 % 10 = 9 by decide)) y).trans ?_
    have hz : k0_pay2 (F := Ideal) y = 0 := Ideal.ofBits_zero_f32
    show k0_pay2 (F := Ideal) y + _ = _
    rw [hz, zero_add]
  | n + 1, hn, h9 => by
    rw [Finset.sum_range_succ, dif_pos hn, ← sums_upto c y n (Nat.lt_of_succ_lt hn) (by omega)]
    exact congrFun (sums_B m c ⟨n + 1, hn⟩ (by show ¬ (n + 1) % 10 = 0; omega) (by show ¬ (n + 1) % 10 = 9; omega)) y

/-- The counts after point `n`, for `n` before the last. -/
theorem counts_upto (c : Dev nD) (y : S8x1875.Idx) : ∀ (n : ℕ) (hn : n < cfg0.N), n < 9 →
    (outsAt0 m c n hn).2.2 y = ∑ k ∈ Finset.range (n + 1), if h : k < cfg0.N then
      colSum (maskOf (iblk m c 1 ⟨k, h⟩) (y 0)) ones (y 1) else 0
  | 0, hn, _ => by
    rw [Finset.sum_range_one, dif_pos hn]
    refine (congrFun (counts_A m c ⟨0, hn⟩ rfl (show ¬ 0 % 10 = 9 by decide)) y).trans ?_
    have hz : k0_pay3 (F := Ideal) y = 0 := Ideal.ofBits_zero_f32
    show k0_pay3 (F := Ideal) y + _ = _
    rw [hz, zero_add]
  | n + 1, hn, h9 => by
    rw [Finset.sum_range_succ, dif_pos hn, ← counts_upto c y n (Nat.lt_of_succ_lt hn) (by omega)]
    exact congrFun (counts_B m c ⟨n + 1, hn⟩ (by show ¬ (n + 1) % 10 = 0; omega) (by show ¬ (n + 1) % 10 = 9; omega)) y

/-- Gains over all points, lanes and block rows are a sum over the rows of the arguments. -/
theorem sum_gains (f : Fin 1000000 → EReal) (g : Fin cfg0.N → Fin 1875 → EReal)
    (hg : ∀ t j, g t j = ∑ q : Fin 160, if j.val % 3 = 0 then byRow f (625 * (160 * t.val + q.val) + j.val / 3) else 0) :
    (∑ j : Fin 1875, ∑ k ∈ Finset.range 10, if h : k < cfg0.N then g ⟨k, h⟩ j else 0) = ∑ n, f n := by
  have hf : ∀ n : Fin 1000000, f n = byRow f n.val := fun n => by unfold byRow; rw [dif_pos n.isLt]
  rw [Finset.sum_congr rfl fun n _ => hf n, ← Grouping.sum_blocks]
  refine Finset.sum_congr rfl fun j _ => ?_
  rw [Finset.sum_range]
  refine Finset.sum_congr rfl fun t _ => ?_
  rw [dif_pos (show t.val < cfg0.N from t.isLt), hg]

/-- The sums the last point reads back: the gains of all points. -/
theorem sums_last (c : Dev nD) (t : Fin cfg0.N) (ht : t.val = 9) (y : S8x1875.Idx) :
    next (k0_pay5 (F := Ideal) (iblk m c 0 t) (iblk m c 1 t)) (iblk m c 1 t)
      (outsAt0 m c (t.val - 1) (Nat.lt_of_le_of_lt (Nat.sub_le _ _) t.isLt)).2.1 y
      = ∑ k ∈ Finset.range 10, if h : k < cfg0.N then
        colSum (maskOf (iblk m c 1 ⟨k, h⟩) (y 0)) (k0_pay5 (F := Ideal) (iblk m c 0 ⟨k, h⟩) (iblk m c 1 ⟨k, h⟩)) (y 1) else 0 := by
  have e : ∀ n (hn : n < cfg0.N), n = 8 → (outsAt0 m c n hn).2.1 y = ∑ k ∈ Finset.range 9, if h : k < cfg0.N then
      colSum (maskOf (iblk m c 1 ⟨k, h⟩) (y 0)) (k0_pay5 (F := Ideal) (iblk m c 0 ⟨k, h⟩) (iblk m c 1 ⟨k, h⟩)) (y 1) else 0 := by
    rintro _ hn rfl
    exact sums_upto m c y 8 hn (by decide)
  unfold next
  rw [Finset.sum_range_succ _ 9, dif_pos (show 9 < cfg0.N from ht ▸ t.isLt), e _ _ (by omega)]
  obtain ⟨n, hn⟩ := t
  obtain rfl : n = 9 := ht
  rfl

/-- The counts the last point reads back. -/
theorem counts_last (c : Dev nD) (t : Fin cfg0.N) (ht : t.val = 9) (y : S8x1875.Idx) :
    next ones (iblk m c 1 t) (outsAt0 m c (t.val - 1) (Nat.lt_of_le_of_lt (Nat.sub_le _ _) t.isLt)).2.2 y
      = ∑ k ∈ Finset.range 10, if h : k < cfg0.N then colSum (maskOf (iblk m c 1 ⟨k, h⟩) (y 0)) ones (y 1) else 0 := by
  have e : ∀ n (hn : n < cfg0.N), n = 8 → (outsAt0 m c n hn).2.2 y = ∑ k ∈ Finset.range 9, if h : k < cfg0.N then
      colSum (maskOf (iblk m c 1 ⟨k, h⟩) (y 0)) ones (y 1) else 0 := by
    rintro _ hn rfl
    exact counts_upto m c y 8 hn (by decide)
  unfold next
  rw [Finset.sum_range_succ _ 9, dif_pos (show 9 < cfg0.N from ht ▸ t.isLt), e _ _ (by omega)]
  obtain ⟨n, hn⟩ := t
  obtain rfl : n = 9 := ht
  rfl

/-- What the kernel computes: each cell's mean residual, over the cells that have a row, added up and divided by the number of rows. -/
def kernelValue (x t : Fin 1000000 → Fin 3 → EReal) : EReal :=
  Ideal.div (∑ s : Fin 8, if 0 < cellCount t s then Ideal.div (cellSum x t s) (cellCount t s) else 0) (Ideal.ofBits .f32 0x49742400#32)

/-- What the last point leaves in the result block. -/
theorem out_last (c : Dev nD) (t : Fin cfg0.N) (ht : t.val = 9) (y : S1x1.Idx) :
    (outsAt0 m c t.val t.isLt).1 y = kernelValue (xs m c) (ts m c) := by
  rw [out_C m c t (by omega) (by omega) y, k0_pay1_apply]
  have hS : ∀ s : Fin 8, (∑ j : Fin 1875, next (k0_pay5 (F := Ideal) (iblk m c 0 t) (iblk m c 1 t)) (iblk m c 1 t)
      (outsAt0 m c (t.val - 1) (Nat.lt_of_le_of_lt (Nat.sub_le _ _) t.isLt)).2.1 (ix2 s j)) = cellSum (xs m c) (ts m c) s := by
    intro s
    refine Eq.trans ?_ (sum_gains (fun n => if rowCell (ts m c) n = s then rowResid (xs m c) (ts m c) n else 0)
      (fun t j => colSum (maskOf (iblk m c 1 t) s) (k0_pay5 (F := Ideal) (iblk m c 0 t) (iblk m c 1 t)) j)
      fun t j => gain_sums m c t s j)
    exact Finset.sum_congr rfl fun j _ => sums_last m c t ht (ix2 s j)
  have hN : ∀ s : Fin 8, (∑ j : Fin 1875, next ones (iblk m c 1 t)
      (outsAt0 m c (t.val - 1) (Nat.lt_of_le_of_lt (Nat.sub_le _ _) t.isLt)).2.2 (ix2 s j)) = cellCount (ts m c) s := by
    intro s
    refine Eq.trans ?_ (sum_gains (fun n => if rowCell (ts m c) n = s then 1 else 0)
      (fun t j => colSum (maskOf (iblk m c 1 t) s) ones j)
      fun t j => gain_counts m c t s j)
    exact Finset.sum_congr rfl fun j _ => counts_last m c t ht (ix2 s j)
  unfold kernelValue
  refine congrArg (fun v => Ideal.div v _) (Finset.sum_congr rfl fun s _ => ?_)
  rw [hS s, hN s]

end Cert.Total
end
-- ==== Proof.KernelRun.lean ====
module

public import proofs.«01_k».proof.Proof.Total
public import Idealize.ShloMosaic.Lib.Pipeline.ValueKit
public import Idealize.ShloMosaic.Lib.StableHlo.RunRead

/-!
The kernel's run: it ends with the kernel's value in the result buffer and the arguments as they were.
-/

@[expose] public section

set_option maxRecDepth 16384

noncomputable section

namespace Cert.Total

open Idealize.ShloMosaic Cert.KernelIdeal Cert.KernelIdeal.Gen Cert.Spec
open Idealize.ShloMosaic.TcCoe Idealize.SL.Sem
variable (m : (ℓ : Loc nD τ sig) → Buf (Elt Ideal) ℓ) (ρ : Dev nD → PrngReg)

/-- The last grid point writes the whole result array, so it ends holding the kernel's value. -/
theorem result_array (c : Dev nD) :
    (dats m 0 c).arrAt 2 cfg0.N = fun _ => kernelValue (xs m c) (ts m c) := by
  refine (dats m 0 c).arrAt_eq_of_after_last 2 t0_9 (by decide +kernel) _ fun j => ?_
  blk_simp
  rw [after0_2]
  exact out_last m c t0_9 rfl j

/-- The line after the launch copies the result array's one element into the result scalar. -/
theorem result_scalar (c : Dev nD) :
    Pipeline.afterTail₀ cfgs (dats m) 0 (V0 m) [hostOps1] c main_v3 = fun _ => kernelValue (xs m c) (ts m c) := by
  have h := Pipeline.withArrays_arr spec0 winFacts0.arr_inj c (V0 m c) (fun w => (dats m 0 c).arrAt w cfg0.N) 2
  unfold Pipeline.afterTail₀
  simp only [List.flatten_cons, List.flatten_nil, List.append_nil]
  after_reads_simp
  rw [show Pipeline.withArrays (cfgs 0).spec c (V0 m c) (fun w => (dats m 0 c).arrAt w (cfgs 0).N) (Proc.devRef .tc main_v2)
    = fun _ => kernelValue (xs m c) (ts m c) from h.trans (result_array m c)]
  rfl

/-- The idealized kernel ends with the kernel's value in its result and with its arguments unchanged. -/
theorem run : θ_run (defs (F := Ideal)) (onTc (τ := τ) (main (F := Ideal))) ⟨m, fun _ => 0, ρ⟩ (fun r => ∀ c : Dev nD,
    r.2.mem ((c.tc : Thread nD τ).loc main_v3) = (fun _ => kernelValue (xs m c) (ts m c))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run (defs (F := Ideal)) _ _).mono (fun _ h c =>
    ⟨((h c).2 main_v3 (Pipeline.mem_restRefs_of main_v3 (by decide) (by decide))).trans (result_scalar m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Total

end
-- ==== Proof.RefTerm.lean ====
module

public import proofs.«01_k».proof.Defs
public import proofs.«01_k».proof.Proof.Gen.ReferenceIdeal
public import Idealize.ShloMosaic.Adequacy
public import Idealize.ShloMosaic.Init
public import Idealize.ShloMosaic.Lib.Claim

/-!
The reference's value as one named term over its two arguments, operation by operation.
-/

@[expose] public section

set_option maxRecDepth 16384

noncomputable section

namespace Cert.Proof.Ref

open Idealize.ShloMosaic Idealize.SL.Sem Cert.ReferenceIdeal Cert.ReferenceIdeal.Gen

variable {F : FTy → Type} [FloatOps F]

/-- The sixty-four bin centres. -/
def bins : FVec F S64 .f32 := fun i => FloatOps.ofBits .f32 (lit0 (S64.rowMajor i))

/-- The distances of one column of the targets to the sixty-four bin centres: `|t - b_k|`. -/
def dist (col : FVec F S1000000 .f32) : FVec F S1000000x64 .f32 :=
  Host.absf (subf
    (broadcastInDim S1000000x64 ![0, 1] bcast_S1000000x1_S1000000x64_0_1
      (broadcastInDim S1000000x1 ![0] bcast_S1000000_S1000000x1_0 col))
    (broadcastInDim S1000000x64 ![0, 1] bcast_S1x64_S1000000x64_0_1
      (broadcastInDim S1x64 ![1] bcast_S64_S1x64_1 bins)))

/-- The index of the farthest bin, as a word. -/
def farBin (col : FVec F S1000000 .f32) : IVec S1000000 32 := fun j =>
  (Host.argReduce reducer_argmax_f32_i32 (dist col) (iotaInDim S1000000x64 32 1) (constant S_ .f32 0xFF800000#32)
    (constantI S_ 32 0#32) reducesTo_S1000000x64_S1000000_d1 h_S_ j).2

/-- Column `k` of an `[N, 3]` array. -/
def col0 (x : FVec F S1000000x3 .f32) : FVec F S1000000 .f32 :=
  shapeCast S1000000 (extractStridedSlice S1000000x1 ![0, 0] x slices_S1000000x3_S1000000x1_0_0) shapeCasts_S1000000x1_S1000000
/-- The second column. -/
def col1 (x : FVec F S1000000x3 .f32) : FVec F S1000000 .f32 :=
  shapeCast S1000000 (extractStridedSlice S1000000x1 ![0, 1] x slices_S1000000x3_S1000000x1_0_1) shapeCasts_S1000000x1_S1000000
/-- The third column. -/
def col2 (x : FVec F S1000000x3 .f32) : FVec F S1000000 .f32 :=
  shapeCast S1000000 (extractStridedSlice S1000000x1 ![0, 2] x slices_S1000000x3_S1000000x1_0_2) shapeCasts_S1000000x1_S1000000

/-- Whether `|t| > π/2`, as a word. -/
def bigWord (col : FVec F S1000000 .f32) : IVec S1000000 32 :=
  extui 32 (cmpf .ogt (Host.absf col) (broadcastInDim S1000000 ![] bcast_S_S1000000 (constant S_ .f32 0x3FC90FDB#32))) natLt_1_32

/-- Python's wrap of a negative index on an axis of size `n`. -/
def wrap (n : BitVec 32) (w : IVec S1000000 32) : IVec S1000000 32 :=
  select (cmpi .slt w (broadcastInDim S1000000 ![] bcast_S_S1000000 (constantI S_ 32 0#32)))
    (addi w (broadcastInDim S1000000 ![] bcast_S_S1000000 (constantI S_ 32 n))) w

/-- A vector of words as a column. -/
def asColumn (w : IVec S1000000 32) : IVec S1000000x1 32 :=
  broadcastInDim S1000000x1 ![0] bcast_S1000000_S1000000x1_0 w

/-- Three columns of words, side by side. -/
def triples (u v w : IVec S1000000x1 32) : IVec S1000000x3 32 :=
  concatenate S1000000x3 1 [⟨S1000000x1, u⟩, ⟨S1000000x1, v⟩, ⟨S1000000x1, w⟩]
    concatenates_S1000000x1_S1000000x1_S1000000x1_S1000000x3_d1

/-- The three index words of every row. -/
def indices (t : FVec F S1000000x3 .f32) : IVec S1000000x3 32 :=
  triples (asColumn (wrap 64#32 (farBin (col0 t)))) (asColumn (wrap 64#32 (farBin (col1 t))))
    (asColumn (wrap 2#32 (bigWord (col2 t))))

/-- The histogram: ones added at every row's index triple. -/
def hist (i : IVec S1000000x3 32) : FVec F S64x64x2 .f32 :=
  Host.scatterAdd scatter_S64x64x2_S1000000x3_S1000000_n_012_012_1
    (broadcastInDim S64x64x2 ![] bcast_S_S64x64x2 (constant S_ .f32 0x00000000#32)) i
    (broadcastInDim S1000000 ![] bcast_S_S1000000 (constant S_ .f32 0x3F800000#32))

/-- The histogram read back at every row's index triple. -/
def counts (t : FVec F S1000000x3 .f32) : FVec F S1000000 .f32 :=
  Host.gather gather_S64x64x2_S1000000x3_S1000000_n_012_n_n_012_1_111 (hist (indices t)) (indices t)

/-- The Euclidean norm of every row. -/
def norm (x : FVec F S1000000x3 .f32) : FVec F S1000000 .f32 :=
  Host.sqrt (Host.reduceAdd (mulf x x) (constant S_ .f32 0x00000000#32) reducesTo_S1000000x3_S1000000_d1 h_S_)

/-- The rows' terms `(‖sin x - sin t‖ + ‖cos x - cos t‖) / count`. -/
def terms (x t : FVec F S1000000x3 .f32) : FVec F S1000000 .f32 :=
  Host.divf (addf (norm (subf (Host.sin x) (Host.sin t))) (norm (subf (Host.cos x) (Host.cos t)))) (counts t)

/-- The reference's result: the mean of the rows' terms. -/
def result (x t : FVec F S1000000x3 .f32) : FVec F S_ .f32 :=
  Host.divf (Host.reduceAdd (terms x t) (constant S_ .f32 0x00000000#32) reducesTo_S1000000_S_d0 h_S_)
    (constant S_ .f32 0x49742400#32)

end Cert.Proof.Ref

end
-- ==== Proof.RefOps.lean ====
module

public import proofs.«01_k».proof.Defs
public import proofs.«01_k».proof.Proof.Gen.ReferenceIdeal
public import Idealize.ShloMosaic.Adequacy
public import Idealize.ShloMosaic.Init
public import Idealize.ShloMosaic.Lib.Claim
public import Idealize.ShloMosaic.Lib.StableHlo.RunRead
public import proofs.«01_k».proof.Proof.RefTerm

/-!
The reference's operations, cut into stages, and that its program is their sequence.
-/

@[expose] public section

set_option maxRecDepth 16384

noncomputable section

namespace Cert.Proof.Ref

open Idealize.ShloMosaic Idealize.SL.Sem Cert.ReferenceIdeal Cert.ReferenceIdeal.Gen

variable {F : FTy → Type} [FloatOps F]

/-- The operations up to the farthest bin of the first column. -/
def ops0 : List (HloOp τ sig (Elt F)) :=
  [StableHlo.nullary main_cst (fun i => FloatOps.ofBits .f32 (lit0 (S64.rowMajor i))),
   StableHlo.unary main_arg1 main_v0 ((extractStridedSlice S1000000x1 ![0, 0] · slices_S1000000x3_S1000000x1_0_0) : (⟨S1000000x3, .f32⟩ : BufTy).Contents (Elt F) → (⟨S1000000x1, .f32⟩ : BufTy).Contents (Elt F)),
   StableHlo.reshape main_v0 main_v1 rfl shapeCasts_S1000000x1_S1000000,
   StableHlo.unary main_v1 main_v2 (broadcastInDim S1000000x1 ![0] bcast_S1000000_S1000000x1_0 : (⟨S1000000, .f32⟩ : BufTy).Contents (Elt F) → (⟨S1000000x1, .f32⟩ : BufTy).Contents (Elt F)),
   StableHlo.unary main_cst main_v3 (broadcastInDim S1x64 ![1] bcast_S64_S1x64_1 : (⟨S64, .f32⟩ : BufTy).Contents (Elt F) → (⟨S1x64, .f32⟩ : BufTy).Contents (Elt F)),
   StableHlo.unary main_v2 main_v4 (broadcastInDim S1000000x64 ![0, 1] bcast_S1000000x1_S1000000x64_0_1 : (⟨S1000000x1, .f32⟩ : BufTy).Contents (Elt F) → (⟨S1000000x64, .f32⟩ : BufTy).Contents (Elt F)),
   StableHlo.unary main_v3 main_v5 (broadcastInDim S1000000x64 ![0, 1] bcast_S1x64_S1000000x64_0_1 : (⟨S1x64, .f32⟩ : BufTy).Contents (Elt F) → (⟨S1000000x64, .f32⟩ : BufTy).Contents (Elt F)),
   StableHlo.binary main_v4 main_v5 main_v6 (subf : (⟨S1000000x64, .f32⟩ : BufTy).Contents (Elt F) → (⟨S1000000x64, .f32⟩ : BufTy).Contents (Elt F) → (⟨S1000000x64, .f32⟩ : BufTy).Contents (Elt F)),
   StableHlo.unary main_v6 main_v7 (Host.absf : (⟨S1000000x64, .f32⟩ : BufTy).Contents (Elt F) → (⟨S1000000x64, .f32⟩ : BufTy).Contents (Elt F)),
   StableHlo.nullary main_call0_v0 (iotaInDim S1000000x64 32 1),
   StableHlo.nullary main_call0_cst (constant S_ .f32 0xFF800000#32),
   StableHlo.nullary main_call0_c (constantI S_ 32 0#32),
   StableHlo.quaternary main_v7 main_call0_v0 main_call0_cst main_call0_c main_call0_v1_0 ((fun x y u v j => (Host.argReduce reducer_argmax_f32_i32 x y u v reducesTo_S1000000x64_S1000000_d1 h_S_ j).1) : (⟨S1000000x64, .f32⟩ : BufTy).Contents (Elt F) → (⟨S1000000x64, .i32⟩ : BufTy).Contents (Elt F) → (⟨S_, .f32⟩ : BufTy).Contents (Elt F) → (⟨S_, .i32⟩ : BufTy).Contents (Elt F) → (⟨S1000000, .f32⟩ : BufTy).Contents (Elt F)),
   StableHlo.quaternary main_v7 main_call0_v0 main_call0_cst main_call0_c main_v8 ((fun x y u v j => (Host.argReduce reducer_argmax_f32_i32 x y u v reducesTo_S1000000x64_S1000000_d1 h_S_ j).2) : (⟨S1000000x64, .f32⟩ : BufTy).Contents (Elt F) → (⟨S1000000x64, .i32⟩ : BufTy).Contents (Elt F) → (⟨S_, .f32⟩ : BufTy).Contents (Elt F) → (⟨S_, .i32⟩ : BufTy).Contents (Elt F) → (⟨S1000000, .i32⟩ : BufTy).Contents (Elt F))]

/-- The operations up to the farthest bin of the second column. -/
def ops1 : List (HloOp τ sig (Elt F)) :=
  [StableHlo.unary main_arg1 main_v9 ((extractStridedSlice S1000000x1 ![0, 1] · slices_S1000000x3_S1000000x1_0_1) : (⟨S1000000x3, .f32⟩ : BufTy).Contents (Elt F) → (⟨S1000000x1, .f32⟩ : BufTy).Contents (Elt F)),
   StableHlo.reshape main_v9 main_v10 rfl shapeCasts_S1000000x1_S1000000,
   StableHlo.unary main_v10 main_v11 (broadcastInDim S1000000x1 ![0] bcast_S1000000_S1000000x1_0 : (⟨S1000000, .f32⟩ : BufTy).Contents (Elt F) → (⟨S1000000x1, .f32⟩ : BufTy).Contents (Elt F)),
   StableHlo.unary main_cst main_v12 (broadcastInDim S1x64 ![1] bcast_S64_S1x64_1 : (⟨S64, .f32⟩ : BufTy).Contents (Elt F) → (⟨S1x64, .f32⟩ : BufTy).Contents (Elt F)),
   StableHlo.unary main_v11 main_v13 (broadcastInDim S1000000x64 ![0, 1] bcast_S1000000x1_S1000000x64_0_1 : (⟨S1000000x1, .f32⟩ : BufTy).Contents (Elt F) → (⟨S1000000x64, .f32⟩ : BufTy).Contents (Elt F)),
   StableHlo.unary main_v12 main_v14 (broadcastInDim S1000000x64 ![0, 1] bcast_S1x64_S1000000x64_0_1 : (⟨S1x64, .f32⟩ : BufTy).Contents (Elt F) → (⟨S1000000x64, .f32⟩ : BufTy).Contents (Elt F)),
   StableHlo.binary main_v13 main_v14 main_v15 (subf : (⟨S1000000x64, .f32⟩ : BufTy).Contents (Elt F) → (⟨S1000000x64, .f32⟩ : BufTy).Contents (Elt F) → (⟨S1000000x64, .f32⟩ : BufTy).Contents (Elt F)),
   StableHlo.unary main_v15 main_v16 (Host.absf : (⟨S1000000x64, .f32⟩ : BufTy).Contents (Elt F) → (⟨S1000000x64, .f32⟩ : BufTy).Contents (Elt F)),
   StableHlo.nullary main_call1_v0 (iotaInDim S1000000x64 32 1),
   StableHlo.nullary main_call1_cst (constant S_ .f32 0xFF800000#32),
   StableHlo.nullary main_call1_c (constantI S_ 32 0#32),
   StableHlo.quaternary main_v16 main_call1_v0 main_call1_cst main_call1_c main_call1_v1_0 ((fun x y u v j => (Host.argReduce reducer_argmax_f32_i32 x y u v reducesTo_S1000000x64_S1000000_d1 h_S_ j).1) : (⟨S1000000x64, .f32⟩ : BufTy).Contents (Elt F) → (⟨S1000000x64, .i32⟩ : BufTy).Contents (Elt F) → (⟨S_, .f32⟩ : BufTy).Contents (Elt F) → (⟨S_, .i32⟩ : BufTy).Contents (Elt F) → (⟨S1000000, .f32⟩ : BufTy).Contents (Elt F)),
   StableHlo.quaternary main_v16 main_call1_v0 main_call1_cst main_call1_c main_v17 ((fun x y u v j => (Host.argReduce reducer_argmax_f32_i32 x y u v reducesTo_S1000000x64_S1000000_d1 h_S_ j).2) : (⟨S1000000x64, .f32⟩ : BufTy).Contents (Elt F) → (⟨S1000000x64, .i32⟩ : BufTy).Contents (Elt F) → (⟨S_, .f32⟩ : BufTy).Contents (Elt F) → (⟨S_, .i32⟩ : BufTy).Contents (Elt F) → (⟨S1000000, .i32⟩ : BufTy).Contents (Elt F))]

/-- The operations up to the word of the third column. -/
def ops2 : List (HloOp τ sig (Elt F)) :=
  [StableHlo.unary main_arg1 main_v18 ((extractStridedSlice S1000000x1 ![0, 2] · slices_S1000000x3_S1000000x1_0_2) : (⟨S1000000x3, .f32⟩ : BufTy).Contents (Elt F) → (⟨S1000000x1, .f32⟩ : BufTy).Contents (Elt F)),
   StableHlo.reshape main_v18 main_v19 rfl shapeCasts_S1000000x1_S1000000,
   StableHlo.unary main_v19 main_v20 (Host.absf : (⟨S1000000, .f32⟩ : BufTy).Contents (Elt F) → (⟨S1000000, .f32⟩ : BufTy).Contents (Elt F)),
   StableHlo.nullary main_cst_0 (constant S_ .f32 0x3FC90FDB#32),
   StableHlo.unary main_cst_0 main_v21 (broadcastInDim S1000000 ![] bcast_S_S1000000 : (⟨S_, .f32⟩ : BufTy).Contents (Elt F) → (⟨S1000000, .f32⟩ : BufTy).Contents (Elt F)),
   StableHlo.binary main_v20 main_v21 main_v22 (cmpf .ogt : (⟨S1000000, .f32⟩ : BufTy).Contents (Elt F) → (⟨S1000000, .f32⟩ : BufTy).Contents (Elt F) → (⟨S1000000, .i1⟩ : BufTy).Contents (Elt F)),
   StableHlo.unary main_v22 main_v23 ((extui 32 · natLt_1_32) : (⟨S1000000, .i1⟩ : BufTy).Contents (Elt F) → (⟨S1000000, .i32⟩ : BufTy).Contents (Elt F))]

/-- The operations up to the wrapped index words. -/
def ops3 : List (HloOp τ sig (Elt F)) :=
  [StableHlo.nullary main_cst_1 (constant S_ .f32 0x00000000#32),
   StableHlo.unary main_cst_1 main_v24 (broadcastInDim S64x64x2 ![] bcast_S_S64x64x2 : (⟨S_, .f32⟩ : BufTy).Contents (Elt F) → (⟨S64x64x2, .f32⟩ : BufTy).Contents (Elt F)),
   StableHlo.nullary main_c (constantI S_ 32 0#32),
   StableHlo.unary main_c main_v25 (broadcastInDim S1000000 ![] bcast_S_S1000000 : (⟨S_, .i32⟩ : BufTy).Contents (Elt F) → (⟨S1000000, .i32⟩ : BufTy).Contents (Elt F)),
   StableHlo.binary main_v8 main_v25 main_v26 (cmpi .slt : (⟨S1000000, .i32⟩ : BufTy).Contents (Elt F) → (⟨S1000000, .i32⟩ : BufTy).Contents (Elt F) → (⟨S1000000, .i1⟩ : BufTy).Contents (Elt F)),
   StableHlo.nullary main_c_2 (constantI S_ 32 64#32),
   StableHlo.unary main_c_2 main_v27 (broadcastInDim S1000000 ![] bcast_S_S1000000 : (⟨S_, .i32⟩ : BufTy).Contents (Elt F) → (⟨S1000000, .i32⟩ : BufTy).Contents (Elt F)),
   StableHlo.binary main_v8 main_v27 main_v28 (addi : (⟨S1000000, .i32⟩ : BufTy).Contents (Elt F) → (⟨S1000000, .i32⟩ : BufTy).Contents (Elt F) → (⟨S1000000, .i32⟩ : BufTy).Contents (Elt F)),
   StableHlo.ternary main_v26 main_v28 main_v8 main_v29 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.nullary main_c_3 (constantI S_ 32 0#32),
   StableHlo.unary main_c_3 main_v30 (broadcastInDim S1000000 ![] bcast_S_S1000000 : (⟨S_, .i32⟩ : BufTy).Contents (Elt F) → (⟨S1000000, .i32⟩ : BufTy).Contents (Elt F)),
   StableHlo.binary main_v17 main_v30 main_v31 (cmpi .slt : (⟨S1000000, .i32⟩ : BufTy).Contents (Elt F) → (⟨S1000000, .i32⟩ : BufTy).Contents (Elt F) → (⟨S1000000, .i1⟩ : BufTy).Contents (Elt F)),
   StableHlo.nullary main_c_4 (constantI S_ 32 64#32),
   StableHlo.unary main_c_4 main_v32 (broadcastInDim S1000000 ![] bcast_S_S1000000 : (⟨S_, .i32⟩ : BufTy).Contents (Elt F) → (⟨S1000000, .i32⟩ : BufTy).Contents (Elt F)),
   StableHlo.binary main_v17 main_v32 main_v33 (addi : (⟨S1000000, .i32⟩ : BufTy).Contents (Elt F) → (⟨S1000000, .i32⟩ : BufTy).Contents (Elt F) → (⟨S1000000, .i32⟩ : BufTy).Contents (Elt F)),
   StableHlo.ternary main_v31 main_v33 main_v17 main_v34 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.nullary main_c_5 (constantI S_ 32 0#32),
   StableHlo.unary main_c_5 main_v35 (broadcastInDim S1000000 ![] bcast_S_S1000000 : (⟨S_, .i32⟩ : BufTy).Contents (Elt F) → (⟨S1000000, .i32⟩ : BufTy).Contents (Elt F)),
   StableHlo.binary main_v23 main_v35 main_v36 (cmpi .slt : (⟨S1000000, .i32⟩ : BufTy).Contents (Elt F) → (⟨S1000000, .i32⟩ : BufTy).Contents (Elt F) → (⟨S1000000, .i1⟩ : BufTy).Contents (Elt F)),
   StableHlo.nullary main_c_6 (constantI S_ 32 2#32),
   StableHlo.unary main_c_6 main_v37 (broadcastInDim S1000000 ![] bcast_S_S1000000 : (⟨S_, .i32⟩ : BufTy).Contents (Elt F) → (⟨S1000000, .i32⟩ : BufTy).Contents (Elt F)),
   StableHlo.binary main_v23 main_v37 main_v38 (addi : (⟨S1000000, .i32⟩ : BufTy).Contents (Elt F) → (⟨S1000000, .i32⟩ : BufTy).Contents (Elt F) → (⟨S1000000, .i32⟩ : BufTy).Contents (Elt F)),
   StableHlo.ternary main_v36 main_v38 main_v23 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.unary main_v29 main_v40 (broadcastInDim S1000000x1 ![0] bcast_S1000000_S1000000x1_0 : (⟨S1000000, .i32⟩ : BufTy).Contents (Elt F) → (⟨S1000000x1, .i32⟩ : BufTy).Contents (Elt F)),
   StableHlo.unary main_v34 main_v41 (broadcastInDim S1000000x1 ![0] bcast_S1000000_S1000000x1_0 : (⟨S1000000, .i32⟩ : BufTy).Contents (Elt F) → (⟨S1000000x1, .i32⟩ : BufTy).Contents (Elt F)),
   StableHlo.unary main_v39 main_v42 (broadcastInDim S1000000x1 ![0] bcast_S1000000_S1000000x1_0 : (⟨S1000000, .i32⟩ : BufTy).Contents (Elt F) → (⟨S1000000x1, .i32⟩ : BufTy).Contents (Elt F))]

/-- The operations up to the index triples. -/
def ops4 : List (HloOp τ sig (Elt F)) :=
  [StableHlo.nary ![main_v40, main_v41, main_v42] main_v43 (fun u => (concatenate S1000000x3 1 [⟨S1000000x1, (u 0 : (⟨S1000000x1, .i32⟩ : BufTy).Contents (Elt F))⟩, ⟨S1000000x1, (u 1 : (⟨S1000000x1, .i32⟩ : BufTy).Contents (Elt F))⟩, ⟨S1000000x1, (u 2 : (⟨S1000000x1, .i32⟩ : BufTy).Contents (Elt F))⟩] concatenates_S1000000x1_S1000000x1_S1000000x1_S1000000x3_d1 : (⟨S1000000x3, .i32⟩ : BufTy).Contents (Elt F)))]

/-- The operations up to the histogram. -/
def ops5 : List (HloOp τ sig (Elt F)) :=
  [StableHlo.nullary main_cst_7 (constant S_ .f32 0x3F800000#32),
   StableHlo.unary main_cst_7 main_v44 (broadcastInDim S1000000 ![] bcast_S_S1000000 : (⟨S_, .f32⟩ : BufTy).Contents (Elt F) → (⟨S1000000, .f32⟩ : BufTy).Contents (Elt F)),
   StableHlo.ternary main_v24 main_v43 main_v44 main_v45 ((fun x i u => Host.scatterAdd scatter_S64x64x2_S1000000x3_S1000000_n_012_012_1 x i u) : (⟨S64x64x2, .f32⟩ : BufTy).Contents (Elt F) → (⟨S1000000x3, .i32⟩ : BufTy).Contents (Elt F) → (⟨S1000000, .f32⟩ : BufTy).Contents (Elt F) → (⟨S64x64x2, .f32⟩ : BufTy).Contents (Elt F))]

/-- The operations up to the wrapped index words, once more. -/
def ops6 : List (HloOp τ sig (Elt F)) :=
  [StableHlo.nullary main_c_8 (constantI S_ 32 0#32),
   StableHlo.unary main_c_8 main_v46 (broadcastInDim S1000000 ![] bcast_S_S1000000 : (⟨S_, .i32⟩ : BufTy).Contents (Elt F) → (⟨S1000000, .i32⟩ : BufTy).Contents (Elt F)),
   StableHlo.binary main_v8 main_v46 main_v47 (cmpi .slt : (⟨S1000000, .i32⟩ : BufTy).Contents (Elt F) → (⟨S1000000, .i32⟩ : BufTy).Contents (Elt F) → (⟨S1000000, .i1⟩ : BufTy).Contents (Elt F)),
   StableHlo.nullary main_c_9 (constantI S_ 32 64#32),
   StableHlo.unary main_c_9 main_v48 (broadcastInDim S1000000 ![] bcast_S_S1000000 : (⟨S_, .i32⟩ : BufTy).Contents (Elt F) → (⟨S1000000, .i32⟩ : BufTy).Contents (Elt F)),
   StableHlo.binary main_v8 main_v48 main_v49 (addi : (⟨S1000000, .i32⟩ : BufTy).Contents (Elt F) → (⟨S1000000, .i32⟩ : BufTy).Contents (Elt F) → (⟨S1000000, .i32⟩ : BufTy).Contents (Elt F)),
   StableHlo.ternary main_v47 main_v49 main_v8 main_v50 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.nullary main_c_10 (constantI S_ 32 0#32),
   StableHlo.unary main_c_10 main_v51 (broadcastInDim S1000000 ![] bcast_S_S1000000 : (⟨S_, .i32⟩ : BufTy).Contents (Elt F) → (⟨S1000000, .i32⟩ : BufTy).Contents (Elt F)),
   StableHlo.binary main_v17 main_v51 main_v52 (cmpi .slt : (⟨S1000000, .i32⟩ : BufTy).Contents (Elt F) → (⟨S1000000, .i32⟩ : BufTy).Contents (Elt F) → (⟨S1000000, .i1⟩ : BufTy).Contents (Elt F)),
   StableHlo.nullary main_c_11 (constantI S_ 32 64#32),
   StableHlo.unary main_c_11 main_v53 (broadcastInDim S1000000 ![] bcast_S_S1000000 : (⟨S_, .i32⟩ : BufTy).Contents (Elt F) → (⟨S1000000, .i32⟩ : BufTy).Contents (Elt F)),
   StableHlo.binary main_v17 main_v53 main_v54 (addi : (⟨S1000000, .i32⟩ : BufTy).Contents (Elt F) → (⟨S1000000, .i32⟩ : BufTy).Contents (Elt F) → (⟨S1000000, .i32⟩ : BufTy).Contents (Elt F)),
   StableHlo.ternary main_v52 main_v54 main_v17 main_v55 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.nullary main_c_12 (constantI S_ 32 0#32),
   StableHlo.unary main_c_12 main_v56 (broadcastInDim S1000000 ![] bcast_S_S1000000 : (⟨S_, .i32⟩ : BufTy).Contents (Elt F) → (⟨S1000000, .i32⟩ : BufTy).Contents (Elt F)),
   StableHlo.binary main_v23 main_v56 main_v57 (cmpi .slt : (⟨S1000000, .i32⟩ : BufTy).Contents (Elt F) → (⟨S1000000, .i32⟩ : BufTy).Contents (Elt F) → (⟨S1000000, .i1⟩ : BufTy).Contents (Elt F)),
   StableHlo.nullary main_c_13 (constantI S_ 32 2#32),
   StableHlo.unary main_c_13 main_v58 (broadcastInDim S1000000 ![] bcast_S_S1000000 : (⟨S_, .i32⟩ : BufTy).Contents (Elt F) → (⟨S1000000, .i32⟩ : BufTy).Contents (Elt F)),
   StableHlo.binary main_v23 main_v58 main_v59 (addi : (⟨S1000000, .i32⟩ : BufTy).Contents (Elt F) → (⟨S1000000, .i32⟩ : BufTy).Contents (Elt F) → (⟨S1000000, .i32⟩ : BufTy).Contents (Elt F)),
   StableHlo.ternary main_v57 main_v59 main_v23 main_v60 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
   StableHlo.unary main_v50 main_v61 (broadcastInDim S1000000x1 ![0] bcast_S1000000_S1000000x1_0 : (⟨S1000000, .i32⟩ : BufTy).Contents (Elt F) → (⟨S1000000x1, .i32⟩ : BufTy).Contents (Elt F)),
   StableHlo.unary main_v55 main_v62 (broadcastInDim S1000000x1 ![0] bcast_S1000000_S1000000x1_0 : (⟨S1000000, .i32⟩ : BufTy).Contents (Elt F) → (⟨S1000000x1, .i32⟩ : BufTy).Contents (Elt F)),
   StableHlo.unary main_v60 main_v63 (broadcastInDim S1000000x1 ![0] bcast_S1000000_S1000000x1_0 : (⟨S1000000, .i32⟩ : BufTy).Contents (Elt F) → (⟨S1000000x1, .i32⟩ : BufTy).Contents (Elt F))]

/-- The operations up to the index triples, once more. -/
def ops7 : List (HloOp τ sig (Elt F)) :=
  [StableHlo.nary ![main_v61, main_v62, main_v63] main_v64 (fun u => (concatenate S1000000x3 1 [⟨S1000000x1, (u 0 : (⟨S1000000x1, .i32⟩ : BufTy).Contents (Elt F))⟩, ⟨S1000000x1, (u 1 : (⟨S1000000x1, .i32⟩ : BufTy).Contents (Elt F))⟩, ⟨S1000000x1, (u 2 : (⟨S1000000x1, .i32⟩ : BufTy).Contents (Elt F))⟩] concatenates_S1000000x1_S1000000x1_S1000000x1_S1000000x3_d1 : (⟨S1000000x3, .i32⟩ : BufTy).Contents (Elt F)))]

/-- The operations up to the counts read back. -/
def ops8 : List (HloOp τ sig (Elt F)) :=
  [StableHlo.binary main_v45 main_v64 main_v65 ((fun x i => Host.gather gather_S64x64x2_S1000000x3_S1000000_n_012_n_n_012_1_111 x i) : (⟨S64x64x2, .f32⟩ : BufTy).Contents (Elt F) → (⟨S1000000x3, .i32⟩ : BufTy).Contents (Elt F) → (⟨S1000000, .f32⟩ : BufTy).Contents (Elt F))]

/-- The operations up to the norms of the sines. -/
def ops9 : List (HloOp τ sig (Elt F)) :=
  [StableHlo.unary main_arg0 main_v66 (Host.sin : (⟨S1000000x3, .f32⟩ : BufTy).Contents (Elt F) → (⟨S1000000x3, .f32⟩ : BufTy).Contents (Elt F)),
   StableHlo.unary main_arg1 main_v67 (Host.sin : (⟨S1000000x3, .f32⟩ : BufTy).Contents (Elt F) → (⟨S1000000x3, .f32⟩ : BufTy).Contents (Elt F)),
   StableHlo.binary main_v66 main_v67 main_v68 (subf : (⟨S1000000x3, .f32⟩ : BufTy).Contents (Elt F) → (⟨S1000000x3, .f32⟩ : BufTy).Contents (Elt F) → (⟨S1000000x3, .f32⟩ : BufTy).Contents (Elt F)),
   StableHlo.binary main_v68 main_v68 main_call2_v0 (mulf : (⟨S1000000x3, .f32⟩ : BufTy).Contents (Elt F) → (⟨S1000000x3, .f32⟩ : BufTy).Contents (Elt F) → (⟨S1000000x3, .f32⟩ : BufTy).Contents (Elt F)),
   StableHlo.nullary main_call2_cst (constant S_ .f32 0x00000000#32),
   StableHlo.binary main_call2_v0 main_call2_cst main_call2_v1 ((fun x v => Host.reduceAdd x v reducesTo_S1000000x3_S1000000_d1 h_S_) : (⟨S1000000x3, .f32⟩ : BufTy).Contents (Elt F) → (⟨S_, .f32⟩ : BufTy).Contents (Elt F) → (⟨S1000000, .f32⟩ : BufTy).Contents (Elt F)),
   StableHlo.unary main_call2_v1 main_v69 (Host.sqrt : (⟨S1000000, .f32⟩ : BufTy).Contents (Elt F) → (⟨S1000000, .f32⟩ : BufTy).Contents (Elt F))]

/-- The operations up to the norms of the cosines. -/
def ops10 : List (HloOp τ sig (Elt F)) :=
  [StableHlo.unary main_arg0 main_v70 (Host.cos : (⟨S1000000x3, .f32⟩ : BufTy).Contents (Elt F) → (⟨S1000000x3, .f32⟩ : BufTy).Contents (Elt F)),
   StableHlo.unary main_arg1 main_v71 (Host.cos : (⟨S1000000x3, .f32⟩ : BufTy).Contents (Elt F) → (⟨S1000000x3, .f32⟩ : BufTy).Contents (Elt F)),
   StableHlo.binary main_v70 main_v71 main_v72 (subf : (⟨S1000000x3, .f32⟩ : BufTy).Contents (Elt F) → (⟨S1000000x3, .f32⟩ : BufTy).Contents (Elt F) → (⟨S1000000x3, .f32⟩ : BufTy).Contents (Elt F)),
   StableHlo.binary main_v72 main_v72 main_call3_v0 (mulf : (⟨S1000000x3, .f32⟩ : BufTy).Contents (Elt F) → (⟨S1000000x3, .f32⟩ : BufTy).Contents (Elt F) → (⟨S1000000x3, .f32⟩ : BufTy).Contents (Elt F)),
   StableHlo.nullary main_call3_cst (constant S_ .f32 0x00000000#32),
   StableHlo.binary main_call3_v0 main_call3_cst main_call3_v1 ((fun x v => Host.reduceAdd x v reducesTo_S1000000x3_S1000000_d1 h_S_) : (⟨S1000000x3, .f32⟩ : BufTy).Contents (Elt F) → (⟨S_, .f32⟩ : BufTy).Contents (Elt F) → (⟨S1000000, .f32⟩ : BufTy).Contents (Elt F)),
   StableHlo.unary main_call3_v1 main_v73 (Host.sqrt : (⟨S1000000, .f32⟩ : BufTy).Contents (Elt F) → (⟨S1000000, .f32⟩ : BufTy).Contents (Elt F))]

/-- The operations up to the mean. -/
def ops11 : List (HloOp τ sig (Elt F)) :=
  [StableHlo.binary main_v69 main_v73 main_v74 (addf : (⟨S1000000, .f32⟩ : BufTy).Contents (Elt F) → (⟨S1000000, .f32⟩ : BufTy).Contents (Elt F) → (⟨S1000000, .f32⟩ : BufTy).Contents (Elt F)),
   StableHlo.binary main_v74 main_v65 main_v75 (Host.divf : (⟨S1000000, .f32⟩ : BufTy).Contents (Elt F) → (⟨S1000000, .f32⟩ : BufTy).Contents (Elt F) → (⟨S1000000, .f32⟩ : BufTy).Contents (Elt F)),
   StableHlo.nullary main_cst_14 (constant S_ .f32 0x00000000#32),
   StableHlo.binary main_v75 main_cst_14 main_v76 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
   StableHlo.nullary main_cst_15 (constant S_ .f32 0x49742400#32),
   StableHlo.binary main_v76 main_cst_15 main_v77 (Host.divf : (⟨S_, .f32⟩ : BufTy).Contents (Elt F) → (⟨S_, .f32⟩ : BufTy).Contents (Elt F) → (⟨S_, .f32⟩ : BufTy).Contents (Elt F))]

/-- The whole line. -/
abbrev ops : List (HloOp τ sig (Elt F)) :=
  ops0 ++ (ops1 ++ (ops2 ++ (ops3 ++ (ops4 ++ (ops5 ++ (ops6 ++ (ops7 ++ (ops8 ++ (ops9 ++ (ops10 ++ (ops11)))))))))))

set_option maxRecDepth 100000 in
set_option maxHeartbeats 4000000 in
/-- The reference's program is the sequence of its stages' operations. -/
theorem main_seq (d : Dev nD) : StableHlo.IsSeq (main (F := F) d) ops := by
  hlo_seq

end Cert.Proof.Ref

end
-- ==== Proof.RefReads.lean ====
module

public import proofs.«01_k».proof.Proof.RefOps

/-!
What each stage of the reference leaves in the buffers that are read later.
-/

@[expose] public section

set_option maxRecDepth 16384

noncomputable section

namespace Cert.Proof.Ref

open Idealize.ShloMosaic Idealize.ShloMosaic.StableHlo Idealize.SL.Sem Cert.ReferenceIdeal Cert.ReferenceIdeal.Gen

variable {F : FTy → Type} [FloatOps F] (W : Valuation τ sig (Elt F))

/-- The first stage leaves the bin centres. -/
theorem ops0_bins : after ops0 W (Proc.devRef .tc main_cst) = (bins : FVec F S64 .f32) := by
  after_reads_simp; rfl

/-- It leaves the farthest bin of each row's first angle. -/
theorem ops0_far : after ops0 W (Proc.devRef .tc main_v8) = farBin (F := F) (col0 (W (Proc.devRef .tc main_arg1))) := by
  after_reads_simp; rfl

/-- The second stage leaves the farthest bin of each row's second angle. -/
theorem ops1_far (h : W (Proc.devRef .tc main_cst) = (bins : FVec F S64 .f32)) :
    after ops1 W (Proc.devRef .tc main_v17) = farBin (F := F) (col1 (W (Proc.devRef .tc main_arg1))) := by
  after_reads_simp; rw [h]; rfl

/-- The third stage leaves whether each row's third angle exceeds the bound. -/
theorem ops2_big : after ops2 W (Proc.devRef .tc main_v23) = bigWord (F := F) (col2 (W (Proc.devRef .tc main_arg1))) := by
  after_reads_simp; rfl

/-- The fourth stage leaves the first index, wrapped where it is negative, as a column. -/
theorem ops3_a : after (ops3 (F := F)) W (Proc.devRef .tc main_v40) = asColumn (wrap 64#32 (W (Proc.devRef .tc main_v8))) := by
  after_reads_simp; rfl

/-- The second index likewise. -/
theorem ops3_b : after (ops3 (F := F)) W (Proc.devRef .tc main_v41) = asColumn (wrap 64#32 (W (Proc.devRef .tc main_v17))) := by
  after_reads_simp; rfl

/-- The third index likewise. -/
theorem ops3_c : after (ops3 (F := F)) W (Proc.devRef .tc main_v42) = asColumn (wrap 2#32 (W (Proc.devRef .tc main_v23))) := by
  after_reads_simp; rfl

/-- It leaves a histogram of zeros. -/
theorem ops3_zero : after (ops3 (F := F)) W (Proc.devRef .tc main_v24) =
    (broadcastInDim S64x64x2 ![] bcast_S_S64x64x2 (constant S_ .f32 0x00000000#32) : FVec F S64x64x2 .f32) := by
  after_reads_simp

/-- The fifth stage joins the three columns. -/
theorem ops4_triples : after (ops4 (F := F)) W (Proc.devRef .tc main_v43) =
    triples (W (Proc.devRef .tc main_v40)) (W (Proc.devRef .tc main_v41)) (W (Proc.devRef .tc main_v42)) := by
  after_reads_simp; rfl

/-- The sixth stage adds one to the histogram at every row's indices. -/
theorem ops5_hist (h : W (Proc.devRef .tc main_v24) =
      (broadcastInDim S64x64x2 ![] bcast_S_S64x64x2 (constant S_ .f32 0x00000000#32) : FVec F S64x64x2 .f32)) :
    after (ops5 (F := F)) W (Proc.devRef .tc main_v45) = hist (F := F) (W (Proc.devRef .tc main_v43)) := by
  after_reads_simp; rw [h]; rfl

/-- The seventh stage wraps the first index again, for the gather. -/
theorem ops6_a : after (ops6 (F := F)) W (Proc.devRef .tc main_v61) = asColumn (wrap 64#32 (W (Proc.devRef .tc main_v8))) := by
  after_reads_simp; rfl

/-- The second index likewise. -/
theorem ops6_b : after (ops6 (F := F)) W (Proc.devRef .tc main_v62) = asColumn (wrap 64#32 (W (Proc.devRef .tc main_v17))) := by
  after_reads_simp; rfl

/-- The third index likewise. -/
theorem ops6_c : after (ops6 (F := F)) W (Proc.devRef .tc main_v63) = asColumn (wrap 2#32 (W (Proc.devRef .tc main_v23))) := by
  after_reads_simp; rfl

/-- The eighth stage joins the three columns. -/
theorem ops7_triples : after (ops7 (F := F)) W (Proc.devRef .tc main_v64) =
    triples (W (Proc.devRef .tc main_v61)) (W (Proc.devRef .tc main_v62)) (W (Proc.devRef .tc main_v63)) := by
  after_reads_simp; rfl

/-- The ninth stage reads the histogram at every row's indices. -/
theorem ops8_counts : after (ops8 (F := F)) W (Proc.devRef .tc main_v65) =
    Host.gather gather_S64x64x2_S1000000x3_S1000000_n_012_n_n_012_1_111
      (W (Proc.devRef .tc main_v45) : FVec F S64x64x2 .f32) (W (Proc.devRef .tc main_v64)) := by
  after_reads_simp

/-- The tenth stage leaves each row's norm of the difference of the sines. -/
theorem ops9_norm : after (ops9 (F := F)) W (Proc.devRef .tc main_v69) =
    norm (F := F) (subf (Host.sin (W (Proc.devRef .tc main_arg0))) (Host.sin (W (Proc.devRef .tc main_arg1)))) := by
  after_reads_simp; rfl

/-- The eleventh stage leaves each row's norm of the difference of the cosines. -/
theorem ops10_norm : after (ops10 (F := F)) W (Proc.devRef .tc main_v73) =
    norm (F := F) (subf (Host.cos (W (Proc.devRef .tc main_arg0))) (Host.cos (W (Proc.devRef .tc main_arg1)))) := by
  after_reads_simp; rfl

/-- The last stage leaves the mean of the sums of the two norms over the counts. -/
theorem ops11_mean : after (ops11 (F := F)) W (Proc.devRef .tc main_v77) =
    (Host.divf (Host.reduceAdd (Host.divf (addf (W (Proc.devRef .tc main_v69)) (W (Proc.devRef .tc main_v73))) (W (Proc.devRef .tc main_v65)))
      (constant S_ .f32 0x00000000#32) reducesTo_S1000000_S_d0 h_S_) (constant S_ .f32 0x49742400#32) : FVec F S_ .f32) := by
  after_reads_simp

end Cert.Proof.Ref

end
-- ==== Proof.RefRun.lean ====
module

public import proofs.«01_k».proof.Proof.RefReads

/-!
What each stage of the reference leaves alone, and the run: `main_v77` ends holding `result`, the arguments are kept.
-/

@[expose] public section

set_option maxRecDepth 16384

noncomputable section

namespace Cert.Proof.Ref

open Idealize.ShloMosaic Idealize.ShloMosaic.StableHlo Idealize.SL.Sem Cert.ReferenceIdeal Cert.ReferenceIdeal.Gen

section

variable {F : FTy → Type} [FloatOps F] (W : Valuation τ sig (Elt F))

/-- A buffer that stage 0 does not write keeps its contents through it. -/
theorem kept0 {r : Ref sig .tc} (h : r ∉ [main_cst, main_v0, main_v1, main_v2, main_v3, main_v4, main_v5, main_v6, main_v7, main_call0_v0, main_call0_cst, main_call0_c, main_call0_v1_0, main_v8]) :
    after (ops0 (F := F)) W (no_index (Proc.devRef .tc r)) = W (Proc.devRef .tc r) :=
  after_unwritten _ rfl h W

/-- A buffer that stage 1 does not write keeps its contents through it. -/
theorem kept1 {r : Ref sig .tc} (h : r ∉ [main_v9, main_v10, main_v11, main_v12, main_v13, main_v14, main_v15, main_v16, main_call1_v0, main_call1_cst, main_call1_c, main_call1_v1_0, main_v17]) :
    after (ops1 (F := F)) W (no_index (Proc.devRef .tc r)) = W (Proc.devRef .tc r) :=
  after_unwritten _ rfl h W

/-- A buffer that stage 2 does not write keeps its contents through it. -/
theorem kept2 {r : Ref sig .tc} (h : r ∉ [main_v18, main_v19, main_v20, main_cst_0, main_v21, main_v22, main_v23]) :
    after (ops2 (F := F)) W (no_index (Proc.devRef .tc r)) = W (Proc.devRef .tc r) :=
  after_unwritten _ rfl h W

/-- A buffer that stage 3 does not write keeps its contents through it. -/
theorem kept3 {r : Ref sig .tc} (h : r ∉ [main_cst_1, main_v24, main_c, main_v25, main_v26, main_c_2, main_v27, main_v28, main_v29, main_c_3, main_v30, main_v31, main_c_4, main_v32, main_v33, main_v34, main_c_5, main_v35, main_v36, main_c_6, main_v37, main_v38, main_v39, main_v40, main_v41, main_v42]) :
    after (ops3 (F := F)) W (no_index (Proc.devRef .tc r)) = W (Proc.devRef .tc r) :=
  after_unwritten _ rfl h W

/-- A buffer that stage 4 does not write keeps its contents through it. -/
theorem kept4 {r : Ref sig .tc} (h : r ∉ [main_v43]) :
    after (ops4 (F := F)) W (no_index (Proc.devRef .tc r)) = W (Proc.devRef .tc r) :=
  after_unwritten _ rfl h W

/-- A buffer that stage 5 does not write keeps its contents through it. -/
theorem kept5 {r : Ref sig .tc} (h : r ∉ [main_cst_7, main_v44, main_v45]) :
    after (ops5 (F := F)) W (no_index (Proc.devRef .tc r)) = W (Proc.devRef .tc r) :=
  after_unwritten _ rfl h W

/-- A buffer that stage 6 does not write keeps its contents through it. -/
theorem kept6 {r : Ref sig .tc} (h : r ∉ [main_c_8, main_v46, main_v47, main_c_9, main_v48, main_v49, main_v50, main_c_10, main_v51, main_v52, main_c_11, main_v53, main_v54, main_v55, main_c_12, main_v56, main_v57, main_c_13, main_v58, main_v59, main_v60, main_v61, main_v62, main_v63]) :
    after (ops6 (F := F)) W (no_index (Proc.devRef .tc r)) = W (Proc.devRef .tc r) :=
  after_unwritten _ rfl h W

/-- A buffer that stage 7 does not write keeps its contents through it. -/
theorem kept7 {r : Ref sig .tc} (h : r ∉ [main_v64]) :
    after (ops7 (F := F)) W (no_index (Proc.devRef .tc r)) = W (Proc.devRef .tc r) :=
  after_unwritten _ rfl h W

/-- A buffer that stage 8 does not write keeps its contents through it. -/
theorem kept8 {r : Ref sig .tc} (h : r ∉ [main_v65]) :
    after (ops8 (F := F)) W (no_index (Proc.devRef .tc r)) = W (Proc.devRef .tc r) :=
  after_unwritten _ rfl h W

/-- A buffer that stage 9 does not write keeps its contents through it. -/
theorem kept9 {r : Ref sig .tc} (h : r ∉ [main_v66, main_v67, main_v68, main_call2_v0, main_call2_cst, main_call2_v1, main_v69]) :
    after (ops9 (F := F)) W (no_index (Proc.devRef .tc r)) = W (Proc.devRef .tc r) :=
  after_unwritten _ rfl h W

/-- A buffer that stage 10 does not write keeps its contents through it. -/
theorem kept10 {r : Ref sig .tc} (h : r ∉ [main_v70, main_v71, main_v72, main_call3_v0, main_call3_cst, main_call3_v1, main_v73]) :
    after (ops10 (F := F)) W (no_index (Proc.devRef .tc r)) = W (Proc.devRef .tc r) :=
  after_unwritten _ rfl h W

/-- A buffer that stage 11 does not write keeps its contents through it. -/
theorem kept11 {r : Ref sig .tc} (h : r ∉ [main_v74, main_v75, main_cst_14, main_v76, main_cst_15, main_v77]) :
    after (ops11 (F := F)) W (no_index (Proc.devRef .tc r)) = W (Proc.devRef .tc r) :=
  after_unwritten _ rfl h W

/-- A line in two pieces is its first piece, then its second. -/
theorem after_pieces (l₁ l₂ : List (HloOp τ sig (Elt F))) : after (l₁ ++ l₂) W = after l₂ (after l₁ W) := by
  induction l₁ generalizing W with
  | nil => rfl
  | cons op l ih => exact ih _

/-- The line leaves the reference's result at `main_v77`. -/
theorem ops_result : after (ops (F := F)) W (Proc.devRef .tc main_v77) =
    result (F := F) (W (Proc.devRef .tc main_arg0)) (W (Proc.devRef .tc main_arg1)) := by
  simp only [ops, after_pieces]
  rw [ops11_mean, ops10_norm]
  simp (disch := decide) only [kept10]
  rw [ops9_norm]
  simp (disch := decide) only [kept9]
  rw [ops8_counts]
  simp (disch := decide) only [kept8]
  rw [ops7_triples]
  simp (disch := decide) only [kept7]
  rw [ops6_a, ops6_b, ops6_c]
  simp (disch := decide) only [kept6]
  rw [ops5_hist _ (by simp (disch := decide) only [kept4]; exact ops3_zero _)]
  simp (disch := decide) only [kept5]
  rw [ops4_triples]
  simp (disch := decide) only [kept4]
  rw [ops3_a, ops3_b, ops3_c]
  simp (disch := decide) only [kept3]
  rw [ops2_big]
  simp (disch := decide) only [kept2]
  rw [ops1_far _ (ops0_bins W)]
  simp (disch := decide) only [kept1]
  rw [ops0_far]
  simp (disch := decide) only [kept0]
  rfl

/-- The line keeps an argument. -/
theorem ops_arg0 : after (ops (F := F)) W (Proc.devRef .tc main_arg0) = W (Proc.devRef .tc main_arg0) := by
  simp (disch := decide) only [ops, after_pieces, kept0, kept1, kept2, kept3, kept4, kept5, kept6, kept7, kept8, kept9, kept10, kept11]

/-- The second argument likewise. -/
theorem ops_arg1 : after (ops (F := F)) W (Proc.devRef .tc main_arg1) = W (Proc.devRef .tc main_arg1) := by
  simp (disch := decide) only [ops, after_pieces, kept0, kept1, kept2, kept3, kept4, kept5, kept6, kept7, kept8, kept9, kept10, kept11]

end

/-- The reference runs to the end, its result buffer holding `result` of the arguments and the arguments kept. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v77) =
          result (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) := by
  refine θ_run_mono (run_hlo _ _ main_seq (by decide) (by decide) ?_ ?_ m g) fun r h c => ⟨?_, ?_, ?_⟩
  · simp only [ops, List.forall_append]
    refine ⟨by simp [ops0],
      by simp [ops1],
      by simp [ops2],
      by simp [ops3],
      by simp [ops4],
      by simp [ops5],
      by simp [ops6],
      by simp [ops7],
      by simp [ops8],
      by simp [ops9],
      by simp [ops10],
      by simp [ops11]⟩
  · refine List.forall_iff_forall_mem.mp ?_
    simp only [ops, List.forall_append]
    refine ⟨forall_fresh_of_map rfl, forall_fresh_of_map rfl, forall_fresh_of_map rfl, forall_fresh_of_map rfl, forall_fresh_of_map rfl, forall_fresh_of_map rfl, forall_fresh_of_map rfl, forall_fresh_of_map rfl, forall_fresh_of_map rfl, forall_fresh_of_map rfl, forall_fresh_of_map rfl, forall_fresh_of_map rfl⟩
  · rw [h]; exact ops_result _
  · rw [h]; exact ops_arg0 _
  · rw [h]; exact ops_arg1 _

end Cert.Proof.Ref

end
-- ==== Proof.RefBins.lean ====
module

public import proofs.«01_k».proof.Proof.RefTerm
public import proofs.«01_k».proof.Proof.Spec
public import proofs.«01_k».proof.Proof.Words
public import Idealize.ShloMosaic.Lib.Pointwise
public import Idealize.ShloMosaic.PureOps.Ideal.Laws
public import Mathlib.Data.List.Sort

/-!
The arg-max over the sixty-four bins: the reference's two-operand reduction along the bins folds over them in order, so
its index is bin 63 where the last bin is strictly farther than the first and bin 0 elsewhere.
-/

@[expose] public section

noncomputable section

namespace Cert.Proof.Ref

open Idealize.ShloMosaic Cert.ReferenceIdeal Cert.ReferenceIdeal.Gen Cert.Spec

/-- The row-major positions of row `j` of an `[A, B]` array, in order. -/
theorem row_positions {A B : ℕ} (j : Fin A) (P : (⟨2, ![A, B]⟩ : Shape).Idx → Prop) [DecidablePred P]
    (hP : ∀ i, P i ↔ i 0 = j) :
    (List.finRange (⟨2, ![A, B]⟩ : Shape).numel).filter
        (fun n => P ((⟨2, ![A, B]⟩ : Shape).rowMajor.symm n))
      = (List.finRange B).map fun k => (⟨2, ![A, B]⟩ : Shape).rowMajor (ix2 j k) := by
  have hs : ((List.finRange B).map fun k => (⟨2, ![A, B]⟩ : Shape).rowMajor (ix2 j k)).Pairwise (· < ·) := by
    refine List.pairwise_map.mpr ((List.pairwise_lt_finRange B).imp fun {a b} hab => ?_)
    rw [Fin.lt_def, rowMajor_val2 _ B rfl, rowMajor_val2 _ B rfl]
    simpa using hab
  have hf : ((List.finRange (⟨2, ![A, B]⟩ : Shape).numel).filter
        (fun n => P ((⟨2, ![A, B]⟩ : Shape).rowMajor.symm n))).Pairwise (· < ·) :=
    (List.pairwise_lt_finRange _).filter _
  refine List.Perm.eq_of_pairwise (le := (· < ·)) (fun a b _ _ h h' => absurd h (lt_asymm h')) hf hs ?_
  refine (List.perm_ext_iff_of_nodup (hf.imp fun h => ne_of_lt h) (hs.imp fun h => ne_of_lt h)).mpr fun n => ?_
  simp only [List.mem_filter, List.mem_finRange, true_and, decide_eq_true_eq, List.mem_map, hP]
  constructor
  · rintro rfl
    exact ⟨(⟨2, ![A, B]⟩ : Shape).rowMajor.symm n 1, by rw [← eq_ix2]; exact Equiv.apply_symm_apply _ _⟩
  · rintro ⟨k, rfl⟩
    rw [Equiv.symm_apply_apply]; rfl

/-- The fiber of an arg-max along the last axis of an `[A, B]` array at row `j`: the row's entries, in order. -/
theorem fiber_row {A B : ℕ} {α β : Type} (x : (⟨2, ![A, B]⟩ : Shape).Idx → α) (y : (⟨2, ![A, B]⟩ : Shape).Idx → β)
    (h : (⟨2, ![A, B]⟩ : Shape).ReducesTo [1] ⟨1, ![A]⟩) (j : Fin A) :
    Host.argReduceFiber x y h (ix1 j) = (List.finRange B).map fun k => (x (ix2 j k), y (ix2 j k)) := by
  have key : ∀ i, (h.drop i 0 : ℕ) = i 0 := fun i => rfl
  unfold Host.argReduceFiber
  rw [row_positions j (fun i => h.drop i = ix1 j) (fun i => ?_), List.map_map]
  · refine List.map_congr_left fun k _ => ?_
    simp only [Function.comp_apply, Equiv.symm_apply_apply]
  · constructor
    · intro e
      have := key i
      rw [e] at this; exact Fin.ext this.symm
    · intro e
      funext b
      obtain rfl : b = 0 := Subsingleton.elim _ _
      refine Fin.ext ?_
      rw [key, e]; rfl

/-- The printed reducer is the arg-max's step. -/
theorem reducer_eq : reducer_argmax_f32_i32 (F := Ideal) = Cert.Farthest.step := by
  funext p q
  obtain ⟨a, m⟩ := p
  obtain ⟨b, n⟩ := q
  have e1 : FloatOps.cmpf (F := Ideal) (φ := .f32) .ogt a b = BitVec.ofBool (decide ((b : EReal) < a)) := rfl
  have e2 : FloatOps.cmpf (F := Ideal) (φ := .f32) .une a a = 0#1 := by
    show BitVec.ofBool (decide ((a : EReal) ≠ a)) = _
    simp
  have e3 : FloatOps.cmpf (F := Ideal) (φ := .f32) .oeq a b = BitVec.ofBool (decide ((a : EReal) = b)) := rfl
  have e4 : IntOp.cmpi .slt m n = BitVec.ofBool (m.slt n) := rfl
  unfold reducer_argmax_f32_i32 Cert.Farthest.step
  simp only [e1, e2, e3, e4]
  by_cases h1 : (b : EReal) < a
  · have e : ∀ x : BitVec 1, 1#1 ||| x = 1#1 := by decide
    simp [h1, IntOp.ori, Scalar.select, e]
  · by_cases h2 : (a : EReal) = b
    · by_cases h3 : m.slt n = true
      · simp [h2, h3, IntOp.ori, Scalar.select, IntOp.andi]
      · simp [h2, h3, IntOp.ori, Scalar.select, IntOp.andi]
    · simp [h1, h2, IntOp.ori, Scalar.select, IntOp.andi]

/-- The centre of bin `k`, as a real. -/
def centre (k : Fin 64) : ℝ := Cert.Words.unscale (Cert.Words.scaled (lit0 k))

/-- Every bin centre's word has an exponent field of at least 120 and not all ones. -/
theorem lit0_ex : ∀ k, 120 ≤ Cert.Words.ex (lit0 k) ∧ Cert.Words.ex (lit0 k) < 255 := by decide +kernel

/-- A bin centre's word denotes the real number `centre k`. -/
theorem bits_lit0 (k : Fin 64) : Ideal.ofBits .f32 (lit0 k) = ((centre k : ℝ) : EReal) :=
  Cert.Words.ofBits_eq _ (lit0_ex k)

/-- No centre is below the first. -/
theorem centre_first (k : Fin 64) : centre 0 ≤ centre k :=
  Cert.Words.unscale_le ((by decide +kernel : ∀ k, Cert.Words.scaled (lit0 0) ≤ Cert.Words.scaled (lit0 k)) k)

/-- Every other centre is below the last. -/
theorem centre_last (k : Fin 64) (h : k ≠ 63) : centre k < centre 63 :=
  Cert.Words.unscale_lt ((by decide +kernel : ∀ k, k ≠ 63 → Cert.Words.scaled (lit0 k) < Cert.Words.scaled (lit0 63)) k h)

/-- No centre is above the last. -/
theorem centre_le (k : Fin 64) : centre k ≤ centre 63 := by
  by_cases h : k = 63
  · rw [h]
  · exact (centre_last k h).le

/-- The distance array at row `n`, bin `k`. -/
theorem dist_apply (col : FVec Ideal S1000000 .f32) (n : Fin 1000000) (k : Fin 64) :
    dist col (ix2 n k) = Cert.Farthest.dist (col (ix1 n)) (centre k) := by
  have h : dist col (ix2 n k) = Cert.Farthest.dist (col (ix1 n)) (Ideal.ofBits .f32 (lit0 k)) := by
    have hk : S64.rowMajor (ix1 k) = k := Fin.ext (rowMajor_val1 _)
    unfold dist bins
    pointwise [Cert.Farthest.dist]
    rw [hk]
    rfl
  rw [h, bits_lit0]

/-- The arg-max starts from the value below all others. -/
theorem neg_inf : (constant S_ .f32 0xFF800000#32 : FVec Ideal S_ .f32) (Shape.Idx.first h_S_) = (⊥ : EReal) := by
  show Ideal.ofBits .f32 0xFF800000#32 = ⊥
  simp [Ideal.ofBits, Ideal.ieee]

/-- An arg-max along the last axis of an `[A, B]` array at row `j`: the fold over the row's entries, in order. -/
theorem argReduce_row {A B : ℕ} {β : Type} {u : Shape} (f : Ideal .f32 × β → Ideal .f32 × β → Ideal .f32 × β)
    (x : FVec Ideal ⟨2, ![A, B]⟩ .f32) (y : (⟨2, ![A, B]⟩ : Shape).Idx → β) (p : u.Idx → Ideal .f32) (q : u.Idx → β)
    (h : (⟨2, ![A, B]⟩ : Shape).ReducesTo [1] ⟨1, ![A]⟩) (hu : 0 < u.numel) (j : Fin A) :
    Host.argReduce f x y p q h hu (ix1 j)
      = ((List.finRange B).map fun k => (x (ix2 j k), y (ix2 j k))).foldl f (p (Shape.Idx.first hu), q (Shape.Idx.first hu)) := by
  rw [Ideal.argReduce_eq_reduce2, Host.reduce2_eq_foldl_fiber, fiber_row]
/-- The same of the whole result. -/
theorem argReduce_rows {A B : ℕ} {β : Type} {u : Shape} (f : Ideal .f32 × β → Ideal .f32 × β → Ideal .f32 × β)
    (x : FVec Ideal ⟨2, ![A, B]⟩ .f32) (y : (⟨2, ![A, B]⟩ : Shape).Idx → β) (p : u.Idx → Ideal .f32) (q : u.Idx → β)
    (h : (⟨2, ![A, B]⟩ : Shape).ReducesTo [1] ⟨1, ![A]⟩) (hu : 0 < u.numel) :
    Host.argReduce f x y p q h hu = fun j =>
      ((List.finRange B).map fun k => (x (ix2 (j 0) k), y (ix2 (j 0) k))).foldl f
        (p (Shape.Idx.first hu), q (Shape.Idx.first hu)) := by
  funext j
  obtain ⟨i, rfl⟩ : ∃ i : Fin A, j = ix1 i := ⟨j 0, eq_ix1 j⟩
  exact argReduce_row f x y p q h hu i

/-- The farthest bins, as folds over the bins in order. -/
theorem farBin_rows (col : FVec Ideal S1000000 .f32) : farBin col = fun j =>
    (((List.finRange 64).map fun k => (dist col (ix2 (j 0) k), iotaInDim S1000000x64 32 1 (ix2 (j 0) k))).foldl
      reducer_argmax_f32_i32 ((constant S_ .f32 0xFF800000#32 : FVec Ideal S_ .f32) (Shape.Idx.first h_S_), 0#32)).2 := by
  delta farBin
  rw [argReduce_rows (A := 1000000) (B := 64)]
  rfl

/-- The arg-max of row `n` is a fold over its bins in order. -/
theorem farBin_fold (col : FVec Ideal S1000000 .f32) (n : Fin 1000000) :
    farBin col (ix1 n)
      = (((List.finRange 64).map fun k => (Cert.Farthest.dist (col (ix1 n)) (centre k), BitVec.ofNat 32 k.val)).foldl
          Cert.Farthest.step (⊥, 0#32)).2 := by
  have e : ∀ k : Fin 64, (dist col (ix2 n k), iotaInDim S1000000x64 32 1 (ix2 n k))
      = (Cert.Farthest.dist (col (ix1 n)) (centre k), BitVec.ofNat 32 k.val) := fun k => by rw [dist_apply]; rfl
  rw [farBin_rows, neg_inf, reducer_eq, ← List.map_congr_left fun k _ => e k]
  rfl

/-- The farthest bin of row `n`. -/
theorem farBin_apply (col : FVec Ideal S1000000 .f32) (n : Fin 1000000) :
    farBin col (ix1 n) = if far (col (ix1 n)) then 63#32 else 0#32 := by
  have hlo : lo = ((centre 0 : ℝ) : EReal) := bits_lit0 0
  have hhi : hi = ((centre 63 : ℝ) : EReal) := bits_lit0 63
  rw [farBin_fold, Cert.Farthest.argmax_index (fun k => Cert.Farthest.dist (col (ix1 n)) (centre k))
    (fun k => lt_of_lt_of_le EReal.bot_lt_zero (Cert.Farthest.dist_nonneg _ _))
    (fun h k => Cert.Farthest.dist_le_first centre_first centre_le _ h k)
    (fun h k hk => Cert.Farthest.dist_lt_last centre_first centre_last _ h k hk)]
  unfold far
  rw [hlo, hhi]
  simp only [decide_eq_true_eq]

end Cert.Proof.Ref

end
-- ==== Proof.RefCells.lean ====
module

public import proofs.«01_k».proof.Proof.RefBins
public import Idealize.ShloMosaic.Lib.Routing.OpsPair
public import Idealize.ShloMosaic.Lib.IdealHost

/-!
The reference's index triples and its histogram: a row's triple names its cell, two rows have the same triple exactly
when they lie in the same cell, and the histogram read back at a row's triple counts the rows of its cell.
-/

@[expose] public section

noncomputable section

namespace Cert.Proof.Ref

open Idealize.ShloMosaic Cert.ReferenceIdeal Cert.ReferenceIdeal.Gen Cert.Spec

/-- The first column at a row. -/
theorem col0_apply (x : FVec Ideal S1000000x3 .f32) (n : Fin 1000000) : col0 x (ix1 n) = x (ix2 n 0) := by
  unfold col0
  pointwise []

/-- The second column at a row. -/
theorem col1_apply (x : FVec Ideal S1000000x3 .f32) (n : Fin 1000000) : col1 x (ix1 n) = x (ix2 n 1) := by
  unfold col1
  pointwise []

/-- The third column at a row. -/
theorem col2_apply (x : FVec Ideal S1000000x3 .f32) (n : Fin 1000000) : col2 x (ix1 n) = x (ix2 n 2) := by
  unfold col2
  pointwise []

/-- The word of the bound's test. -/
theorem bigWord_apply (col : FVec Ideal S1000000 .f32) (n : Fin 1000000) :
    bigWord col (ix1 n) = if big (col (ix1 n)) then 1#32 else 0#32 := by
  have h : bigWord col (ix1 n) = (BitVec.ofBool (big (col (ix1 n)))).setWidth 32 := by
    unfold bigWord big halfPi
    pointwise []
    rfl
  rw [h]
  cases big (col (ix1 n)) <;> rfl

/-- A word that is not negative is not moved by the wrap. -/
theorem wrap_apply (a : BitVec 32) (w : IVec S1000000 32) (j : S1000000.Idx) (h : (w j).toNat < 2 ^ 31) :
    wrap a w j = w j := by
  have e : wrap a w j = Scalar.select (IntOp.cmpi .slt (w j) 0#32) (IntOp.addi (w j) a) (w j) := rfl
  rw [e]
  exact Routing.wrap_of_lt _ _ h

/-- A triple's first word is the first column's. -/
theorem triples_0 (u v w : IVec S1000000x1 32) (n : Fin 1000000) : triples u v w (ix2 n 0) = u (ix2 n 0) := by
  unfold triples
  pointwise []

/-- Its second word is the second column's. -/
theorem triples_1 (u v w : IVec S1000000x1 32) (n : Fin 1000000) : triples u v w (ix2 n 1) = v (ix2 n 0) := by
  unfold triples
  pointwise []

/-- Its third word is the third column's. -/
theorem triples_2 (u v w : IVec S1000000x1 32) (n : Fin 1000000) : triples u v w (ix2 n 2) = w (ix2 n 0) := by
  unfold triples
  pointwise []

/-- A vector as a column, at a row. -/
theorem asColumn_apply (w : IVec S1000000 32) (n : Fin 1000000) : asColumn w (ix2 n 0) = w (ix1 n) := by
  unfold asColumn
  pointwise []

/-- The coordinate of a row's triple on axis `a`. -/
def coord (t : FVec Ideal S1000000x3 .f32) (n : Fin 1000000) (a : Fin 3) : ℕ :=
  match a with
  | 0 => if far (t (ix2 n 0)) then 63 else 0
  | 1 => if far (t (ix2 n 1)) then 63 else 0
  | 2 => if big (t (ix2 n 2)) then 1 else 0

/-- The index words of a row are the coordinates. -/
theorem indices_apply (t : FVec Ideal S1000000x3 .f32) (n : Fin 1000000) (a : Fin 3) :
    indices t (ix2 n a) = BitVec.ofNat 32 (coord t n a) := by
  unfold indices
  match a with
  | 0 =>
    rw [triples_0, asColumn_apply, wrap_apply, farBin_apply, col0_apply]
    · show _ = BitVec.ofNat 32 (if _ then _ else _); split <;> rfl
    · rw [farBin_apply]; split <;> decide
  | 1 =>
    rw [triples_1, asColumn_apply, wrap_apply, farBin_apply, col1_apply]
    · show _ = BitVec.ofNat 32 (if _ then _ else _); split <;> rfl
    · rw [farBin_apply]; split <;> decide
  | 2 =>
    rw [triples_2, asColumn_apply, wrap_apply, bigWord_apply, col2_apply]
    · show _ = BitVec.ofNat 32 (if _ then _ else _); split <;> rfl
    · rw [bigWord_apply]; split <;> decide

/-- A coordinate is inside its axis. -/
theorem coord_lt (t : FVec Ideal S1000000x3 .f32) (n : Fin 1000000) (a : Fin 3) : coord t n a < S64x64x2.size a := by
  match a with
  | 0 => show (if _ then _ else _) < _; split <;> decide
  | 1 => show (if _ then _ else _) < _; split <;> decide
  | 2 => show (if _ then _ else _) < _; split <;> decide

/-- Every coordinate of a row is below 64. -/
theorem coord_small (t : FVec Ideal S1000000x3 .f32) (n : Fin 1000000) (a : Fin 3) : coord t n a < 64 := by
  match a with
  | 0 => show (if _ then _ else _) < _; split <;> decide
  | 1 => show (if _ then _ else _) < _; split <;> decide
  | 2 => show (if _ then _ else _) < _; split <;> decide

/-- A row's index words denote its coordinates. -/
theorem index_toInt (t : FVec Ideal S1000000x3 .f32) (n : Fin 1000000) (a : Fin 3) :
    (indices t (ix2 n a)).toInt = (coord t n a : ℤ) := by
  have h := coord_small t n a
  rw [indices_apply, BitVec.toInt_eq_toNat_of_lt] <;> rw [BitVec.toNat_ofNat, Nat.mod_eq_of_lt (by omega)]
  omega

/-- Two rows' triples agree exactly when their cells do. -/
theorem coord_eq_iff (t : FVec Ideal S1000000x3 .f32) (n m : Fin 1000000) :
    (∀ a, coord t m a = coord t n a)
      ↔ rowCell (fun n d => t (ix2 n d)) m = rowCell (fun n d => t (ix2 n d)) n := by
  rw [Fin.forall_fin_succ, Fin.forall_fin_succ, Fin.forall_fin_succ]
  unfold rowCell cell
  rw [Fin.mk.injEq]
  simp only [coord, Fin.succ_zero_eq_one, Fin.succ_one_eq_two, IsEmpty.forall_iff, and_true]
  generalize far (t (ix2 m 0)) = a
  generalize far (t (ix2 m 1)) = b
  generalize big (t (ix2 m 2)) = c
  generalize far (t (ix2 n 0)) = a'
  generalize far (t (ix2 n 1)) = b'
  generalize big (t (ix2 n 2)) = c'
  revert a b c a' b' c'
  decide

/-- Where a row's update starts on each axis. -/
theorem scatter_start (idx : IVec S1000000x3 32) (n : Fin 1000000) (a : Fin 3) :
    scatter_S64x64x2_S1000000x3_S1000000_n_012_012_1.start (ix1 n) idx a = (idx (ix2 n a)).toInt := by
  match a with
  | 0 => exact congrArg (fun i => (idx i).toInt) (funext fun b => by match b with | 0 => rfl | 1 => rfl)
  | 1 => exact congrArg (fun i => (idx i).toInt) (funext fun b => by match b with | 0 => rfl | 1 => rfl)
  | 2 => exact congrArg (fun i => (idx i).toInt) (funext fun b => by match b with | 0 => rfl | 1 => rfl)

/-- The scatter's updates are single elements: no offset within a window. -/
theorem scatter_window (n : Fin 1000000) (a : Fin 3) :
    scatter_S64x64x2_S1000000x3_S1000000_n_012_012_1.window (ix1 n) a = 0 := by
  match a with
  | 0 => rfl
  | 1 => rfl
  | 2 => rfl

/-- Where a row's reading starts on each axis. -/
theorem gather_start (idx : IVec S1000000x3 32) (n : Fin 1000000) (a : Fin 3) :
    gather_S64x64x2_S1000000x3_S1000000_n_012_n_n_012_1_111.start (ix1 n) idx a
      = min (idx (ix2 n a)).toInt.toNat (S64x64x2.size a - 1) := by
  match a with
  | 0 => exact congrArg (fun i => min (idx i).toInt.toNat 63) (funext fun b => by match b with | 0 => rfl | 1 => rfl)
  | 1 => exact congrArg (fun i => min (idx i).toInt.toNat 63) (funext fun b => by match b with | 0 => rfl | 1 => rfl)
  | 2 => exact congrArg (fun i => min (idx i).toInt.toNat 1) (funext fun b => by match b with | 0 => rfl | 1 => rfl)

/-- The gather has no batch axis. -/
theorem gather_batch (n : Fin 1000000) (a : Fin 3) :
    gather_S64x64x2_S1000000x3_S1000000_n_012_n_n_012_1_111.batchCoord (ix1 n) a = 0 := by
  match a with
  | 0 => rfl
  | 1 => rfl
  | 2 => rfl

/-- The gather's slices are single elements: no offset within a slice. -/
theorem gather_off (n : Fin 1000000) (a : Fin 3) :
    gather_S64x64x2_S1000000x3_S1000000_n_012_n_n_012_1_111.offCoord (ix1 n) a = 0 := by
  match a with
  | 0 => rfl
  | 1 => rfl
  | 2 => rfl

/-- The index a row reads is its triple. -/
theorem gather_at (t : FVec Ideal S1000000x3 .f32) (n : Fin 1000000) (a : Fin 3) :
    ((gather_S64x64x2_S1000000x3_S1000000_n_012_n_n_012_1_111.operandIdx (ix1 n) (indices t)) a : ℕ) = coord t n a := by
  have h : ((gather_S64x64x2_S1000000x3_S1000000_n_012_n_n_012_1_111.operandIdx (ix1 n) (indices t)) a : ℕ)
      = gather_S64x64x2_S1000000x3_S1000000_n_012_n_n_012_1_111.start (ix1 n) (indices t) a
        + gather_S64x64x2_S1000000x3_S1000000_n_012_n_n_012_1_111.batchCoord (ix1 n) a
        + gather_S64x64x2_S1000000x3_S1000000_n_012_n_n_012_1_111.offCoord (ix1 n) a := rfl
  rw [gather_batch, gather_off, gather_start] at h
  rw [h, index_toInt, Int.toNat_natCast]
  have := coord_lt t n a
  omega

/-- A sum over the indices of a vector is a sum over its positions. -/
theorem sum_vector {A : ℕ} (f : (⟨1, ![A]⟩ : Shape).Idx → EReal) : ∑ i, f i = ∑ n : Fin A, f (ix1 n) :=
  (Fintype.sum_equiv ⟨fun n : Fin A => (ix1 n : (⟨1, ![A]⟩ : Shape).Idx), fun i => i 0, fun _ => rfl, fun i => (eq_ix1 i).symm⟩
    (fun n => f (ix1 n)) f fun _ => rfl).symm

/-- A gather at an index reads the operand where the indices point. -/
theorem gather_apply {s si t : Shape} {w : ℕ} {α : Type} (d : GatherDims s si t) (x : s.Idx → α) (idx : IVec si w) (j : t.Idx) :
    Host.gather d x idx j = x (d.operandIdx j idx) := rfl

open Classical in
/-- A scatter-add at an index adds the updates that point there. -/
theorem scatterAdd_apply {s si u : Shape} {w : ℕ} (d : ScatterDims s si u) (x : FVec Ideal s .f32) (idx : IVec si w)
    (upd : FVec Ideal u .f32) (i : s.Idx) :
    Host.scatterAdd d x idx upd i
      = (x i + ∑ j ∈ Finset.univ.filter (fun j => d.resultIdx? j idx = some i), upd j : EReal) := by
  show Ideal.hostScatterAdd d x idx upd i = _
  unfold Ideal.hostScatterAdd
  congr 2

/-- The histogram read back at a row's triple is the number of rows in its cell. -/
theorem counts_apply (t : FVec Ideal S1000000x3 .f32) (n : Fin 1000000) :
    counts t (ix1 n) = cellCount (fun n d => t (ix2 n d)) (rowCell (fun n d => t (ix2 n d)) n) := by
  have hland : ∀ m : Fin 1000000,
      (scatter_S64x64x2_S1000000x3_S1000000_n_012_012_1.resultIdx? (ix1 m) (indices t)
          = some (gather_S64x64x2_S1000000x3_S1000000_n_012_n_n_012_1_111.operandIdx (ix1 n) (indices t)))
        ↔ rowCell (fun n d => t (ix2 n d)) m = rowCell (fun n d => t (ix2 n d)) n := by
    intro m
    rw [Routing.resultIdx?_eq_some, ← coord_eq_iff]
    refine forall_congr' fun a => ?_
    rw [scatter_start, scatter_window, index_toInt, gather_at]
    omega
  unfold counts hist
  rw [gather_apply, scatterAdd_apply, Finset.sum_filter, sum_vector]
  have h0 : (broadcastInDim S64x64x2 ![] bcast_S_S64x64x2 (constant S_ .f32 0x00000000#32) : FVec Ideal S64x64x2 .f32)
      (gather_S64x64x2_S1000000x3_S1000000_n_012_n_n_012_1_111.operandIdx (ix1 n) (indices t)) = (0 : EReal) :=
    Ideal.ofBits_zero_f32
  have h1 : ∀ j, (broadcastInDim S1000000 ![] bcast_S_S1000000 (constant S_ .f32 0x3F800000#32) : FVec Ideal S1000000 .f32) j
      = (1 : EReal) := fun j => Ideal.ofBits_one_f32
  rw [h0, zero_add]
  unfold cellCount
  refine Finset.sum_congr rfl fun m _ => ?_
  rw [h1]
  exact if_congr (hland m) rfl rfl

end Cert.Proof.Ref

end
-- ==== Proof.RefValue.lean ====
module

public import proofs.«01_k».proof.Proof.RefCells
public import proofs.«01_k».proof.Proof.Grouping

/-!
What the reference computes: the rows' residuals over the sizes of their cells, added up and divided by the number of
rows; regrouped by cells this is the sum over the cells that hold a row of the cell's residuals over its size.
-/

@[expose] public section

noncomputable section

namespace Cert.Proof.Ref

open Idealize.ShloMosaic Cert.ReferenceIdeal Cert.ReferenceIdeal.Gen Cert.Spec

/-- The host's square root at an index. -/
theorem sqrt_apply {s : Shape} (v : FVec Ideal s .f32) (j : s.Idx) : Host.sqrt v j = Ideal.sqrt (v j) := rfl

/-- The host's quotient at an index. -/
theorem div_apply {s : Shape} (v w : FVec Ideal s .f32) (j : s.Idx) : Host.divf v w j = Ideal.div (v j) (w j) := rfl

/-- A sum at an index. -/
theorem add_apply {s : Shape} (v w : FVec Ideal s .f32) (j : s.Idx) : addf v w j = (v j + w j : EReal) := rfl

/-- A constant at an index. -/
theorem constant_apply {s : Shape} (w : BitVec 32) (j : s.Idx) :
    (constant s .f32 w : FVec Ideal s .f32) j = Ideal.ofBits .f32 w := rfl

/-- A row's norm, its three squares spelt out. -/
theorem norm_apply (v : FVec Ideal S1000000x3 .f32) (n : Fin 1000000) :
    norm v (ix1 n) = Ideal.sqrt (v (ix2 n 0) * v (ix2 n 0) + v (ix2 n 1) * v (ix2 n 1) + v (ix2 n 2) * v (ix2 n 2)) := by
  unfold norm
  rw [sqrt_apply, ValueIdx.hostReduceAdd_apply, constant_apply, Ideal.hostReduceAdd_r2_a1, Ideal.ofBits_zero_f32, zero_add, Fin.sum_univ_three]
  rfl

/-- A row's term: its residual over the size of its cell. -/
theorem terms_apply (x t : FVec Ideal S1000000x3 .f32) (n : Fin 1000000) :
    terms x t (ix1 n) = Ideal.div (rowResid (fun n d => x (ix2 n d)) (fun n d => t (ix2 n d)) n)
      (cellCount (fun n d => t (ix2 n d)) (rowCell (fun n d => t (ix2 n d)) n)) := by
  unfold terms
  rw [div_apply, add_apply, norm_apply, norm_apply, counts_apply]
  rfl

/-- The reference's result, regrouped by cells. -/
theorem result_apply (x t : FVec Ideal S1000000x3 .f32) (j : S_.Idx) :
    result x t j = Ideal.div (∑ c : Fin 8, if 0 < cellCount (fun n d => t (ix2 n d)) c
        then Ideal.div (cellSum (fun n d => x (ix2 n d)) (fun n d => t (ix2 n d)) c) (cellCount (fun n d => t (ix2 n d)) c) else 0)
      (Ideal.ofBits .f32 0x49742400#32) := by
  unfold result
  rw [div_apply, ValueIdx.hostReduceAdd_apply, constant_apply, constant_apply, Ideal.hostReduceAdd_r1_a0, Ideal.ofBits_zero_f32, zero_add]
  refine congrArg (fun v => Ideal.div v (Ideal.ofBits .f32 0x49742400#32)) ?_
  unfold cellCount cellSum
  rw [← Cert.Grouping.sum_div_group]
  exact Finset.sum_congr rfl fun n _ => terms_apply x t n

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.KernelRun
public import proofs.«01_k».proof.Proof.RefRun
public import proofs.«01_k».proof.Proof.RefValue

@[expose] public section

noncomputable section

namespace Cert.Proof

open Idealize.ShloMosaic Idealize.SL.Sem

/-- The reference terminates with its arguments unchanged and, having no semaphore, with every counter at zero. -/
theorem reference_frame : Cert.quiescent_ReferenceIdeal :=
  fun m g _ => (θ_run (Cert.ReferenceIdeal.defs (F := Ideal)) _ _).mono
    (fun r h => ⟨fun c => (h c).2, sem_eq_zero_of_no_sems (by decide) r.2⟩) (Ref.run m g)

/-- From equal arguments the idealized kernel and the reference end with equal results. -/
theorem algebraic : Cert.algebraic_KernelIdeal_ReferenceIdeal := by
  intro m g m' g' _ hm
  refine ⟨fun c => fun _ => Total.kernelValue (Total.xs m c) (Total.ts m c), Total.run m g, ?_⟩
  refine (θ_run (Cert.ReferenceIdeal.defs (F := Ideal)) _ _).mono (fun r h c => ⟨(h c).1.trans ?_, (h c).2⟩) (Ref.run m' g')
  rw [(hm c).1, (hm c).2]
  funext j
  exact Ref.result_apply _ _ j

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial, algebraic⟩

end Cert.Proof

end
